-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x32 : Shape := ⟨2, ![256, 32]⟩
abbrev S512x1 : Shape := ⟨2, ![512, 1]⟩
abbrev S4x256x512 : Shape := ⟨3, ![4, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S512x1 : S_.BroadcastsInDim S512x1 (![] : Fin 0 → Fin S512x1.rank)
  reducesTo_S512x1_S_d0_1 : S512x1.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S512x256 .f32) (main_arg1 : FVec F S256x32 .f32) (main_arg2 : IVec S512x1 32) (main_arg3 : FVec F S4x256x512 .f32) (main_arg4 : FVec F S256x512 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_c_2 : IVec S_ 32 := constantI S_ 32 0#32
  let main_v9 : IVec S512x1 32 := broadcastInDim S512x1 ![] bcast_S_S512x1 main_c_2
  let main_v10 : IVec S512x1 1 := cmpi .sge main_arg2 main_v9
  let main_c_3 : IVec S_ 1 := constantI S_ 1 1#1
  let main_v11 : IVec S_ 1 := (fun x v => Host.reduce IntOp.andi x v reducesTo_S512x1_S_d0_1 h_S_) main_v10 main_c_3
  let main_v12 : IVec S_ 1 := andi main_v8 main_v11
  let main_c_4 : IVec S_ 32 := constantI S_ 32 32#32
  let main_v13 : IVec S512x1 32 := broadcastInDim S512x1 ![] bcast_S_S512x1 main_c_4
  let main_v14 : IVec S512x1 1 := cmpi .slt main_arg2 main_v13
  let main_c_5 : IVec S_ 1 := constantI S_ 1 1#1
  let main_v15 : IVec S_ 1 := (fun x v => Host.reduce IntOp.andi x v reducesTo_S512x1_S_d0_1 h_S_) main_v14 main_c_5
  fn_part1 (F := F) main_v12 main_v15
-- ==== Pre_routed_ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S512x1 : S_.BroadcastsInDim S512x1 (![] : Fin 0 → Fin S512x1.rank)
  reducesTo_S512x1_S_d0_1 : S512x1.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S512x256 .f32) (main_arg1 : FVec F S256x32 .f32) (main_arg2 : IVec S512x1 32) (main_arg3 : FVec F S32x256x512 .f32) (main_arg4 : FVec F S256x512 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_c_2 : IVec S_ 32 := constantI S_ 32 0#32
  let main_v9 : IVec S512x1 32 := broadcastInDim S512x1 ![] bcast_S_S512x1 main_c_2
  let main_v10 : IVec S512x1 1 := cmpi .sge main_arg2 main_v9
  let main_c_3 : IVec S_ 1 := constantI S_ 1 1#1
  let main_v11 : IVec S_ 1 := (fun x v => Host.reduce IntOp.andi x v reducesTo_S512x1_S_d0_1 h_S_) main_v10 main_c_3
  let main_v12 : IVec S_ 1 := andi main_v8 main_v11
  let main_c_4 : IVec S_ 32 := constantI S_ 32 32#32
  let main_v13 : IVec S512x1 32 := broadcastInDim S512x1 ![] bcast_S_S512x1 main_c_4
  let main_v14 : IVec S512x1 1 := cmpi .slt main_arg2 main_v13
  let main_c_5 : IVec S_ 1 := constantI S_ 1 1#1
  let main_v15 : IVec S_ 1 := (fun x v => Host.reduce IntOp.andi x v reducesTo_S512x1_S_d0_1 h_S_) main_v14 main_c_5
  fn_part1 (F := F) main_v12 main_v15
-- ==== Kernel.lean ====
abbrev S512x256 : Shape := ⟨2, ![512, 256]⟩
abbrev S256x32 : Shape := ⟨2, ![256, 32]⟩
abbrev S512x1 : Shape := ⟨2, ![512, 1]⟩
abbrev S4x256x512 : Shape := ⟨3, ![4, 256, 512]⟩
abbrev S256x512 : Shape := ⟨2, ![256, 512]⟩
abbrev S64x512 : Shape := ⟨2, ![64, 512]⟩
abbrev S3x128x512 : Shape := ⟨3, ![3, 128, 512]⟩
abbrev S3 : Shape := ⟨1, ![3]⟩
abbrev S_ : Shape := ⟨0, ![]⟩
abbrev S512x32 : Shape := ⟨2, ![512, 32]⟩
abbrev S512 : Shape := ⟨1, ![512]⟩
abbrev S1x256x512 : Shape := ⟨3, ![1, 256, 512]⟩
abbrev S64x256 : Shape := ⟨2, ![64, 256]⟩
abbrev S64x1 : Shape := ⟨2, ![64, 1]⟩
abbrev S1x64x512 : Shape := ⟨3, ![1, 64, 512]⟩
abbrev S1 : Shape := ⟨1, ![1]⟩
abbrev S1x128x512 : Shape := ⟨3, ![1, 128, 512]⟩
abbrev S128x512 : Shape := ⟨2, ![128, 512]⟩

abbrev nBuf : Space → Nat
  | .hbm => 6
  | .vmem => 13
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S4x256x512, .f32⟩
  | .hbm, ⟨4, _⟩ => ⟨S256x512, .f32⟩
  | .hbm, ⟨5, _⟩ => ⟨S64x512, .f32⟩
  | .local _ .vmem, ⟨0, _⟩ => ⟨S512x256, .f32⟩
  | .local _ .vmem, ⟨1, _⟩ => ⟨S256x32, .f32⟩
  | .local _ .vmem, ⟨2, _⟩ => ⟨S512x1, .i32⟩
  | .local _ .vmem, ⟨3, _⟩ => ⟨S4x256x512, .f32⟩
  | .local _ .vmem, ⟨4, _⟩ => ⟨S256x512, .f32⟩
  | .local _ .vmem, ⟨5, _⟩ => ⟨S64x512, .f32⟩
  | .local _ .vmem, ⟨6, _⟩ => ⟨S512x1, .f32⟩
  | .local _ .vmem, ⟨7, _⟩ => ⟨S4x256x512, .bf16⟩
  | .local _ .vmem, ⟨8, _⟩ => ⟨S256x512, .bf16⟩
  | .local _ .vmem, ⟨9, _⟩ => ⟨S3x128x512, .bf16⟩
  | .local _ .vmem, ⟨10, _⟩ => ⟨S3x128x512, .bf16⟩
  | .local _ .vmem, ⟨11, _⟩ => ⟨S64x512, .bf16⟩
  | .local _ .vmem, ⟨12, _⟩ => ⟨S64x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_13 : BitVec 32 := 0#32
  let c4_i32_8 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v24 : BitVec 32 := Scalar.muli c4_i32_8 v19
  let c4_i32_5 : BitVec 32 := 4#32
  let v20 : BitVec 32 := Scalar.remsi v2 c4_i32_5
  let c1_i32_9 : BitVec 32 := 1#32
  let v25 : BitVec 32 := Scalar.addi v20 c1_i32_9
  let c4_i32_10 : BitVec 32 := 4#32
  let v26 : BitVec 32 := Scalar.remsi v25 c4_i32_10
  let v27 : BitVec 32 := Scalar.addi v24 v26
  let c1_i32_12 : BitVec 32 := 1#32
  let v28 : BitVec 32 := Scalar.muli v27 c1_i32_12
  let v29 : BitVec 32 := Scalar.addi c0_i32_13 v28
  v29.toNat
def k0_dev2 (d0 : Dev nD) : Nat :=
  let c0_i32_18 : BitVec 32 := 0#32
  let c4_i32_14 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_14 v19
  let c4_i32_5 : BitVec 32 := 4#32
  let v20 : BitVec 32 := Scalar.remsi v2 c4_i32_5
  let c2_i32 : BitVec 32 := 2#32
  let v31 : BitVec 32 := Scalar.addi v20 c2_i32
  let c4_i32_15 : BitVec 32 := 4#32
  let v32 : BitVec 32 := Scalar.remsi v31 c4_i32_15
  let v33 : BitVec 32 := Scalar.addi v30 v32
  let c1_i32_17 : BitVec 32 := 1#32
  let v34 : BitVec 32 := Scalar.muli v33 c1_i32_17
  let v35 : BitVec 32 := Scalar.addi c0_i32_18 v34
  v35.toNat
def k0_dev3 (d0 : Dev nD) : Nat :=
  let c0_i32_23 : BitVec 32 := 0#32
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v36 : BitVec 32 := Scalar.muli c4_i32_19 v19
  let c4_i32_5 : BitVec 32 := 4#32
  let v20 : BitVec 32 := Scalar.remsi v2 c4_i32_5
  let c3_i32 : BitVec 32 := 3#32
  let v37 : BitVec 32 := Scalar.addi v20 c3_i32
  let c4_i32_20 : BitVec 32 := 4#32
  let v38 : BitVec 32 := Scalar.remsi v37 c4_i32_20
  let v39 : BitVec 32 := Scalar.addi v36 v38
  let c1_i32_22 : BitVec 32 := 1#32
  let v40 : BitVec 32 := Scalar.muli v39 c1_i32_22
  let v41 : BitVec 32 := Scalar.addi c0_i32_23 v40
  v41.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v21 : BitVec 32 := Scalar.addi v2 c4_i32_6
  let c8_i32_7 : BitVec 32 := 8#32
  let v22 : BitVec 32 := Scalar.remsi v21 c8_i32_7
  let c1_i32_25 : BitVec 32 := 1#32
  let v42 : BitVec 32 := Scalar.muli v22 c1_i32_25
  let v43 : BitVec 32 := Scalar.addi c0_i32_26 v42
  v43.toNat
def k0_off1 (d0 : Dev nD) (c1_i32_65 : BitVec 32) : Fin 2 → Nat :=
  let c4_i32_64 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v100 : BitVec 32 := Scalar.muli c4_i32_64 v19
  let c4_i32_5 : BitVec 32 := 4#32
  let v20 : BitVec 32 := Scalar.remsi v2 c4_i32_5
  let v101 : BitVec 32 := Scalar.addi v20 c1_i32_65
  let c4_i32_66 : BitVec 32 := 4#32
  let v102 : BitVec 32 := Scalar.remsi v101 c4_i32_66
  let v103 : BitVec 32 := Scalar.addi v100 v102
  let c64_i32 : BitVec 32 := 64#32
  let v106 : BitVec 32 := Scalar.muli v103 c64_i32
  let v107 : Index := Scalar.indexCast v106
  let c0_69 : Index := 0#32
  ![v107.toNat, 0]
def k0_off2 (d0 : Dev nD) (c1_i32_65 : BitVec 32) : Fin 2 → Nat :=
  let c4_i32_64 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v100 : BitVec 32 := Scalar.muli c4_i32_64 v19
  let c4_i32_5 : BitVec 32 := 4#32
  let v20 : BitVec 32 := Scalar.remsi v2 c4_i32_5
  let v101 : BitVec 32 := Scalar.addi v20 c1_i32_65
  let c4_i32_66 : BitVec 32 := 4#32
  let v102 : BitVec 32 := Scalar.remsi v101 c4_i32_66
  let v103 : BitVec 32 := Scalar.addi v100 v102
  let c64_i32 : BitVec 32 := 64#32
  let v106 : BitVec 32 := Scalar.muli v103 c64_i32
  let v110 : Index := Scalar.indexCast v106
  let c0_70 : Index := 0#32
  ![v110.toNat, 0]
def k0_off3 (d0 : Dev nD) (c1_i32_65 : BitVec 32) : Fin 2 → Nat :=
  let c4_i32_64 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v100 : BitVec 32 := Scalar.muli c4_i32_64 v19
  let c4_i32_5 : BitVec 32 := 4#32
  let v20 : BitVec 32 := Scalar.remsi v2 c4_i32_5
  let v101 : BitVec 32 := Scalar.addi v20 c1_i32_65
  let c4_i32_66 : BitVec 32 := 4#32
  let v102 : BitVec 32 := Scalar.remsi v101 c4_i32_66
  let v103 : BitVec 32 := Scalar.addi v100 v102
  let c4_i32_67 : BitVec 32 := 4#32
  let v104 : BitVec 32 := Scalar.addi v103 c4_i32_67
  let c8_i32_68 : BitVec 32 := 8#32
  let v105 : BitVec 32 := Scalar.remsi v104 c8_i32_68
  let c64_i32_104 : BitVec 32 := 64#32
  let v172 : BitVec 32 := Scalar.muli v105 c64_i32_104
  let v173 : Index := Scalar.indexCast v172
  let c0_105 : Index := 0#32
  ![v173.toNat, 0]
def k0_off4 (d0 : Dev nD) (c1_i32_65 : BitVec 32) : Fin 2 → Nat :=
  let c4_i32_64 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v100 : BitVec 32 := Scalar.muli c4_i32_64 v19
  let c4_i32_5 : BitVec 32 := 4#32
  let v20 : BitVec 32 := Scalar.remsi v2 c4_i32_5
  let v101 : BitVec 32 := Scalar.addi v20 c1_i32_65
  let c4_i32_66 : BitVec 32 := 4#32
  let v102 : BitVec 32 := Scalar.remsi v101 c4_i32_66
  let v103 : BitVec 32 := Scalar.addi v100 v102
  let c4_i32_67 : BitVec 32 := 4#32
  let v104 : BitVec 32 := Scalar.addi v103 c4_i32_67
  let c8_i32_68 : BitVec 32 := 8#32
  let v105 : BitVec 32 := Scalar.remsi v104 c8_i32_68
  let c64_i32_104 : BitVec 32 := 64#32
  let v172 : BitVec 32 := Scalar.muli v105 c64_i32_104
  let v176 : Index := Scalar.indexCast v172
  let c0_106 : Index := 0#32
  ![v176.toNat, 0]
def k0_dev5 (d0 : Dev nD) : Nat :=
  let c0_i32_144 : BitVec 32 := 0#32
  let c4_i32_64 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v100 : BitVec 32 := Scalar.muli c4_i32_64 v19
  let c4_i32_5 : BitVec 32 := 4#32
  let v20 : BitVec 32 := Scalar.remsi v2 c4_i32_5
  let c1_i32_65 : BitVec 32 := 1#32
  let v101 : BitVec 32 := Scalar.addi v20 c1_i32_65
  let c4_i32_66 : BitVec 32 := 4#32
  let v102 : BitVec 32 := Scalar.remsi v101 c4_i32_66
  let v103 : BitVec 32 := Scalar.addi v100 v102
  let c1_i32_143 : BitVec 32 := 1#32
  let v238 : BitVec 32 := Scalar.muli v103 c1_i32_143
  let v239 : BitVec 32 := Scalar.addi c0_i32_144 v238
  v239.toNat
def k0_dev6 (d0 : Dev nD) : Nat :=
  let c0_i32_231 : BitVec 32 := 0#32
  let c4_i32_149 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v248 : BitVec 32 := Scalar.muli c4_i32_149 v19
  let c4_i32_5 : BitVec 32 := 4#32
  let v20 : BitVec 32 := Scalar.remsi v2 c4_i32_5
  let c2_i32_150 : BitVec 32 := 2#32
  let v249 : BitVec 32 := Scalar.addi v20 c2_i32_150
  let c4_i32_151 : BitVec 32 := 4#32
  let v250 : BitVec 32 := Scalar.remsi v249 c4_i32_151
  let v251 : BitVec 32 := Scalar.addi v248 v250
  let c1_i32_230 : BitVec 32 := 1#32
  let v386 : BitVec 32 := Scalar.muli v251 c1_i32_230
  let v387 : BitVec 32 := Scalar.addi c0_i32_231 v386
  v387.toNat
def k0_dev7 (d0 : Dev nD) : Nat :=
  let c0_i32_318 : BitVec 32 := 0#32
  let c4_i32_236 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v396 : BitVec 32 := Scalar.muli c4_i32_236 v19
  let c4_i32_5 : BitVec 32 := 4#32
  let v20 : BitVec 32 := Scalar.remsi v2 c4_i32_5
  let c3_i32_237 : BitVec 32 := 3#32
  let v397 : BitVec 32 := Scalar.addi v20 c3_i32_237
  let c4_i32_238 : BitVec 32 := 4#32
  let v398 : BitVec 32 := Scalar.remsi v397 c4_i32_238
  let v399 : BitVec 32 := Scalar.addi v396 v398
  let c1_i32_317 : BitVec 32 := 1#32
  let v534 : BitVec 32 := Scalar.muli v399 c1_i32_317
  let v535 : BitVec 32 := Scalar.addi c0_i32_318 v534
  v535.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_323 : BitVec 32 := 64#32
  let v544 : BitVec 32 := Scalar.muli v2 c64_i32_323
  let v545 : Index := Scalar.indexCast v544
  let c0_324 : Index := 0#32
  ![v545.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_323 : BitVec 32 := 64#32
  let v544 : BitVec 32 := Scalar.muli v2 c64_i32_323
  let v548 : Index := Scalar.indexCast v544
  let c0_325 : Index := 0#32
  ![v548.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v21 : BitVec 32 := Scalar.addi v2 c4_i32_6
  let c8_i32_7 : BitVec 32 := 8#32
  let v22 : BitVec 32 := Scalar.remsi v21 c8_i32_7
  let c64_i32_356 : BitVec 32 := 64#32
  let v606 : BitVec 32 := Scalar.muli v22 c64_i32_356
  let v607 : Index := Scalar.indexCast v606
  let c0_357 : Index := 0#32
  ![v607.toNat, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v21 : BitVec 32 := Scalar.addi v2 c4_i32_6
  let c8_i32_7 : BitVec 32 := 8#32
  let v22 : BitVec 32 := Scalar.remsi v21 c8_i32_7
  let c64_i32_356 : BitVec 32 := 64#32
  let v606 : BitVec 32 := Scalar.muli v22 c64_i32_356
  let v610 : Index := Scalar.indexCast v606
  let c0_358 : Index := 0#32
  ![v610.toNat, 0]
def k0_dev8 (d0 : Dev nD) : Nat :=
  let c0_i32_445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v21 : BitVec 32 := Scalar.addi v2 c4_i32_6
  let c8_i32_7 : BitVec 32 := 8#32
  let v22 : BitVec 32 := Scalar.remsi v21 c8_i32_7
  let c1_i32_444 : BitVec 32 := 1#32
  let v727 : BitVec 32 := Scalar.muli v22 c1_i32_444
  let v728 : BitVec 32 := Scalar.addi c0_i32_445 v727
  v728.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S256x512 : Shape := ⟨2, ![256, 512]⟩
abbrev S512x32 : Shape := ⟨2, ![512, 32]⟩
abbrev S_ : Shape := ⟨0, ![]⟩
abbrev S512 : Shape := ⟨1, ![512]⟩
abbrev S512x512 : Shape := ⟨2, ![512, 512]⟩
abbrev S512x1x1 : Shape := ⟨3, ![512, 1, 1]⟩
abbrev S1 : Shape := ⟨1, ![1]⟩
abbrev S1x1x1 : Shape := ⟨3, ![1, 1, 1]⟩
abbrev S512x256x512 : Shape := ⟨3, ![512, 256, 512]⟩

abbrev nBuf : Space → Nat
  | .hbm => 54
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S32x256x512, .f32⟩
  | .hbm, ⟨4, _⟩ => ⟨S256x512, .f32⟩
  | .hbm, ⟨5, _⟩ => ⟨S512x32, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x32, .f32⟩
  | .hbm, ⟨10, _⟩ => ⟨S512x32, .f32⟩
  | .hbm, ⟨11, _⟩ => ⟨S512x32, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x32, .f32⟩
  | .hbm, ⟨16, _⟩ => ⟨S512x32, .f32⟩
  | .hbm, ⟨17, _⟩ => ⟨S512x512, .f32⟩
  | .hbm, ⟨18, _⟩ => ⟨S_, .i32⟩
  | .hbm, ⟨19, _⟩ => ⟨S512x1, .i32⟩
  | .hbm, ⟨20, _⟩ => ⟨S512x1, .i1⟩
  | .hbm, ⟨21, _⟩ => ⟨S_, .i32⟩
  | .hbm, ⟨22, _⟩ => ⟨S512x1, .i32⟩
  | .hbm, ⟨23, _⟩ => ⟨S512x1, .i32⟩
  | .hbm, ⟨24, _⟩ => ⟨S512x1, .i32⟩
  | .hbm, ⟨25, _⟩ => ⟨S512x1x1, .i32⟩
  | .hbm, ⟨26, _⟩ => ⟨S1, .i32⟩
  | .hbm, ⟨27, _⟩ => ⟨S_, .i32⟩
  | .hbm, ⟨28, _⟩ => ⟨S512x1x1, .i32⟩
  | .hbm, ⟨29, _⟩ => ⟨S512x1x1, .i1⟩
  | .hbm, ⟨30, _⟩ => ⟨S1x1x1, .i32⟩
  | .hbm, ⟨31, _⟩ => ⟨S512x1x1, .i32⟩
  | .hbm, ⟨32, _⟩ => ⟨S512x1x1, .i1⟩
  | .hbm, ⟨33, _⟩ => ⟨S512x1x1, .i1⟩
  | .hbm, ⟨34, _⟩ => ⟨S_, .i1⟩
  | .hbm, ⟨35, _⟩ => ⟨S512x1, .i1⟩
  | .hbm, ⟨36, _⟩ => ⟨S512x1, .f32⟩
  | .hbm, ⟨37, _⟩ => ⟨S_, .f32⟩
  | .hbm, ⟨38, _⟩ => ⟨S512x1, .f32⟩
  | .hbm, ⟨39, _⟩ => ⟨S512x1, .f32⟩
  | .hbm, ⟨40, _⟩ => ⟨S512, .i32⟩
  | .hbm, ⟨41, _⟩ => ⟨S_, .i32⟩
  | .hbm, ⟨42, _⟩ => ⟨S512, .i32⟩
  | .hbm, ⟨43, _⟩ => ⟨S512, .i1⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S512x1, .i32⟩
  | .hbm, ⟨49, _⟩ => ⟨S512x256x512, .f32⟩
  | .hbm, ⟨50, _⟩ => ⟨S512x512, .f32⟩
  | .hbm, ⟨51, _⟩ => ⟨S512x512, .f32⟩
  | .hbm, ⟨52, _⟩ => ⟨S512x512, .f32⟩
  | .hbm, ⟨53, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v11 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩

abbrev nD : Nat := 1
abbrev τ : Topo := Topo.v7x

variable {F : FTy → Type} [FloatOps F]
-- ==== Proof.Blocks.lean ====
/-
# What the kernel's buffers hold, for any float values

The five operands of one device, the gate it computes from them, its four experts' weights, the contribution of those
experts to one 64-row chunk, and from these: what it stages for its three mates, what it stages for its mirror, and the
block of the result it writes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.VecWindow
public import Idealize.ShloMosaic.Lib.ValueIdxCore

@[expose] public section

noncomputable section

namespace Cert.Moe

open Cert.KernelIdeal Cert.KernelIdeal.Gen
open Idealize.ShloMosaic Idealize.ShloMosaic.TcCoe
open Idealize.ShloMosaic.VecWindow Idealize.ShloMosaic.ValueIdx
open Idealize.SL.Sem

variable {F : FTy → Type} [FloatOps F]

/-! ## The peers of a device -/

set_option backward.proofsInPublic true in
/-- Device `c`'s peers: its three mates in its group of four, at distance 1, 2 and 3 around the group, and its mirror in
    the other group. -/
def peer (c : Dev nD) : Fin 4 → Dev nD
  | 0 => ⟨4 * (c.val / 4) + (c.val % 4 + 1) % 4, by have := c.isLt; simp only [nD] at *; omega⟩
  | 1 => ⟨4 * (c.val / 4) + (c.val % 4 + 2) % 4, by have := c.isLt; simp only [nD] at *; omega⟩
  | 2 => ⟨4 * (c.val / 4) + (c.val % 4 + 3) % 4, by have := c.isLt; simp only [nD] at *; omega⟩
  | 3 => ⟨(c.val + 4) % 8, Nat.mod_lt _ (by decide)⟩

/-- The way back: `c` is peer `rev j` of its peer `j`. -/
def rev : Fin 4 → Fin 4
  | 0 => 2
  | 1 => 1
  | 2 => 0
  | 3 => 3

/-- Going back is its own way back. -/
theorem rev_rev (j : Fin 4) : rev (rev j) = j := by revert j; decide
/-- A device is peer `rev j` of its peer `j`. -/
theorem peer_rev (c : Dev nD) (j : Fin 4) : peer (peer c j) (rev j) = c := by revert c j; decide
/-- A device is peer `j` of its peer `rev j`. -/
theorem rev_peer (c : Dev nD) (j : Fin 4) : peer (peer c (rev j)) j = c := by revert c j; decide
/-- The four peers of a device differ. -/
theorem peer_ne (c : Dev nD) {i j : Fin 4} (h : i ≠ j) : peer c i ≠ peer c j := by revert c i j; decide
/-- No device is a peer of itself. -/
theorem peer_ne_self (c : Dev nD) (j : Fin 4) : peer c j ≠ c := by revert c j; decide

/-- The mirror of a device. -/
abbrev mirror (c : Dev nD) : Dev nD := peer c 3

/-! ## The operands -/

variable (m : (ℓ : Loc nD τ sig) → Buf (Elt F) ℓ) (c : Dev nD)

/-- The tokens, the router's weights, the routes, the device's four experts and the shared expert, each as device `c`'s
    staging buffer holds it. -/
def xC : (cc0_stg0_0 : Ref sig .tc).ty.Contents (Elt F) := (win0_0.blk (0 : Fin 1)).view.read (Elt F) (m ((c : Thread nD τ).loc main_arg0))
def rwC : (cc0_stg1_0 : Ref sig .tc).ty.Contents (Elt F) := (win0_1.blk (0 : Fin 1)).view.read (Elt F) (m ((c : Thread nD τ).loc main_arg1))
def idxC : (cc0_stg2_0 : Ref sig .tc).ty.Contents (Elt F) := (win0_2.blk (0 : Fin 1)).view.read (Elt F) (m ((c : Thread nD τ).loc main_arg2))
def ewC : (cc0_stg3_0 : Ref sig .tc).ty.Contents (Elt F) := (win0_3.blk (0 : Fin 1)).view.read (Elt F) (m ((c : Thread nD τ).loc main_arg3))
def swC : (cc0_stg4_0 : Ref sig .tc).ty.Contents (Elt F) := (win0_4.blk (0 : Fin 1)).view.read (Elt F) (m ((c : Thread nD τ).loc main_arg4))

/-- The gate of every token: the softmax of its router scores at its route. -/
def gateC : FVec F S512x1 .f32 := k0_pay2 (k0_pay1 (xC m c) (rwC m c) (idxC m c))

/-- Plane `k` of the device's stack of four expert matrices, as the kernel reads it and rounds it. -/
def wC : Fin 4 → FVec F S1x256x512 .bf16
  | 0 => k0_pay3 (window (s := S4x256x512) (ewC m c) ![0, 0, 0] S1x256x512.size inb_S4x256x512_S1x256x512_0_0_0)
  | 1 => k0_pay4 (window (s := S4x256x512) (ewC m c) ![1, 0, 0] S1x256x512.size inb_S4x256x512_S1x256x512_1_0_0)
  | 2 => k0_pay5 (window (s := S4x256x512) (ewC m c) ![2, 0, 0] S1x256x512.size inb_S4x256x512_S1x256x512_2_0_0)
  | 3 => k0_pay6 (window (s := S4x256x512) (ewC m c) ![3, 0, 0] S1x256x512.size inb_S4x256x512_S1x256x512_3_0_0)

/-! ## One chunk's contribution from one device -/

/-- The word the kernel computes for its own number. -/
def word : BitVec 32 := Scalar.remsi (Scalar.divsi (Dev.word c) 1#32) 8#32

/-- One expert on 64 tokens: the rows gated where the route names the expert `e` (zero elsewhere), rounded, times its matrix. -/
def expertTerm (e : BitVec 32) (x : Vec F S64x256 .f32) (ix : Vec F S64x1 .i32) (g : Vec F S64x1 .f32) (w : Vec F S1x256x512 .bf16) : FVec F S64x512 .f32 :=
  matmul dot_S64x256_S256x512_S64x512_1_0_0_1_n_n none
    (truncf .bf16 (mulf (shapeCast S64x256 x shapeCasts_S64x256_S64x256)
      (broadcastTo S64x256 (select (cmpi .eq (shapeCast S64x1 ix shapeCasts_S64x1_S64x1) (broadcast S64x1 e)) g
        (broadcast S64x1 (Scalar.ofBits .f32 0x00000000#32 : F .f32))) broadcasts_S64x1_S64x256)) bitsLt_bf16_f32)
    (shapeCast S256x512 w shapeCasts_S1x256x512_S256x512) (constant S64x512 .f32 0x00000000#32)

/-- The four experts of the device whose number is `v`, summed from zero. -/
def fourTerms (v : BitVec 32) (x : Vec F S64x256 .f32) (ix : Vec F S64x1 .i32) (g : Vec F S64x1 .f32) (w0 w1 w2 w3 : Vec F S1x256x512 .bf16) : FVec F S64x512 .f32 :=
  addf (addf (addf (addf (broadcast S64x512 (Scalar.ofBits .f32 0x00000000#32 : F .f32))
    (expertTerm (Scalar.addi (Scalar.muli v 4#32) 0#32) x ix g w0)) (expertTerm (Scalar.addi (Scalar.muli v 4#32) 1#32) x ix g w1))
    (expertTerm (Scalar.addi (Scalar.muli v 4#32) 2#32) x ix g w2)) (expertTerm (Scalar.addi (Scalar.muli v 4#32) 3#32) x ix g w3)

/-- The 64 rows of a device's chunk lie inside the tokens, and inside an array of one column. -/
theorem rows_inb256 (d : Dev nD) : ∀ a, (![64 * d.val, 0] : Fin 2 → ℕ) a + S64x256.size a ≤ S512x256.size a := by revert d; decide
theorem rows_inb1 (d : Dev nD) : ∀ a, (![64 * d.val, 0] : Fin 2 → ℕ) a + S64x1.size a ≤ S512x1.size a := by revert d; decide

/-- Device `c`'s four experts on chunk `d`, the 64 tokens of device `d`. -/
def chunkC (d : Dev nD) : FVec F S64x512 .f32 :=
  fourTerms (word c) (window (s := S512x256) (xC m c) ![64 * d.val, 0] S64x256.size (rows_inb256 d))
    (window (s := S512x1) (idxC m c) ![64 * d.val, 0] S64x1.size (rows_inb1 d))
    (window (s := S512x1) (gateC m c) ![64 * d.val, 0] S64x1.size (rows_inb1 d)) (wC m c 0) (wC m c 1) (wC m c 2) (wC m c 3)

/-! ## What is staged and what lands -/

/-- The chunk whose contribution stands in half `h` of the slot for peer `j`: the mate's own, and the mate's mirror's. -/
def destOf (j : Fin 4) (h : Fin 2) : Dev nD := if h = 0 then peer c j else mirror (peer c j)

/-- What device `c` stages for its three mates: in slot `j` two chunks of 64 rows, for the mate and for the mate's mirror. -/
def stagedA : (cc0_scratch3 : Ref sig .tc).ty.Contents (Elt F) := fun (i : S3x128x512.Idx) =>
  truncf .bf16 (chunkC m c (destOf c ((i 0).castSucc) (if (i 1).val < 64 then 0 else 1))) bitsLt_bf16_f32
    (ix2 (n0 := 64) (n1 := 512) ⟨(i 1).val % 64, Nat.mod_lt _ (by decide)⟩ (i 2))

/-- What the three mates' transfers leave on device `c`: slot `j` comes from the mate whose peer `j` it is. -/
def landedA : (cc0_scratch4 : Ref sig .tc).ty.Contents (Elt F) := fun (i : S3x128x512.Idx) => stagedA m (peer c (rev (i 0).castSucc)) i

/-- Half `h` of landing slot `j`. -/
def half (j : Fin 3) (h : Fin 2) : Vec F S1x64x512 .bf16 := fun i =>
  (landedA m c : S3x128x512.Idx → F .bf16) (ix3 (n0 := 3) (n1 := 128) (n2 := 512) j ⟨64 * h.val + (i 1).val, by
    have h1 : (i 1).val < 64 := (i 1).isLt
    have h2 := h.isLt
    omega⟩ (i 2))

/-- A sum with one landed half added to it. -/
def addHalf (a : FVec F S64x512 .f32) (v : Vec F S1x64x512 .bf16) : FVec F S64x512 .f32 :=
  addf a (extf .f32 (shapeCast S64x512 v shapeCasts_S1x64x512_S64x512 : FVec F S64x512 .bf16) bitsLt_bf16_f32)

/-- The group's sum over chunk `d` on device `c`: the device's own contribution and the three that landed in half `h`. -/
def groupSum (d : Dev nD) (h : Fin 2) : FVec F S64x512 .f32 :=
  addHalf (addHalf (addHalf (chunkC m c d) (half m c 0 h)) (half m c 1 h)) (half m c 2 h)

/-- What device `c` stages for its mirror: its group's sum over the mirror's chunk. -/
def stagedB : (cc0_scratch5 : Ref sig .tc).ty.Contents (Elt F) :=
  shapeCast S64x512 (truncf .bf16 (groupSum m c (mirror c) 1) bitsLt_bf16_f32) shapeCasts_S64x512_S64x512

/-- What the mirror's transfer leaves on device `c`. -/
def landedB : (cc0_scratch6 : Ref sig .tc).ty.Contents (Elt F) := stagedB m (mirror c)

/-- The shared expert on the device's own chunk. -/
def sharedC : FVec F S64x512 .f32 :=
  k0_pay51 (window (s := S512x256) (xC m c) ![64 * c.val, 0] S64x256.size (rows_inb256 c)) (k0_pay7 (swC m c))

/-- The block of the result that device `c` writes. -/
def outC : (cc0_stg5_0 : Ref sig .tc).ty.Contents (Elt F) := k0_pay57 (sharedC m c) (groupSum m c c 0) (landedB m c)

end Cert.Moe

end
-- ==== Proof.Protocol.lean ====
/-
# The kernel's protocol

Every device shakes hands with its four peers on the runtime's barrier semaphore, sends each of its three mates one slot
of its staging array, and its mirror its second staging array; each transfer credits a send semaphore of the sender and
a receive semaphore of the receiver. Here the semaphores get their duties: who pays each, how much, and which buffer,
with which contents, is handed over with the payment.
-/
module

public import proofs.«01_k».proof.Proof.Blocks
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's own copy of the rounds algebra, its duties named by `Fin 4`, beside the pipeline's. -/
abbrev UB : Type := URounds (GSem nD τ sig) (Fin 4)
/-- The ghost state: the pipeline's rounds and the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Buffers, slots and semaphores -/

abbrev stgM : Memref sig .tc .vmem S3x128x512 .bf16 := Memref.whole cc0_scratch3
abbrev rcvM : Memref sig .tc .vmem S3x128x512 .bf16 := Memref.whole cc0_scratch4
abbrev lastM : Memref sig .tc .vmem S64x512 .bf16 := Memref.whole cc0_scratch5
abbrev landM : Memref sig .tc .vmem S64x512 .bf16 := Memref.whole cc0_scratch6

/-- Slot `j` of an array of three slots, as the kernel's transfers name it. -/
abbrev slotM (M : Memref sig .tc .vmem S3x128x512 .bf16) : Fin 3 → Memref sig .tc .vmem S128x512 .bf16
  | 0 => (M.slice (Rect.unit (s := S3x128x512) ![0, 0, 0] S1x128x512.size inb_S3x128x512_S1x128x512_0_0_0) (fun _ => rfl)).squeeze S128x512 squeezes_S1x128x512_S128x512
  | 1 => (M.slice (Rect.unit (s := S3x128x512) ![1, 0, 0] S1x128x512.size inb_S3x128x512_S1x128x512_1_0_0) (fun _ => rfl)).squeeze S128x512 squeezes_S1x128x512_S128x512
  | 2 => (M.slice (Rect.unit (s := S3x128x512) ![2, 0, 0] S1x128x512.size inb_S3x128x512_S1x128x512_2_0_0) (fun _ => rfl)).squeeze S128x512 squeezes_S1x128x512_S128x512

/-- The runtime's barrier semaphore; the send and the receive semaphore of the transfer to peer `j`. -/
abbrev barS : Sem sig := (SemArray.scalar (sig.barrier 0 rfl) : Sems sig S_).sem
/-- The semaphore a send to peer `j` counts on, -/
abbrev sendS : Fin 4 → DmaSem sig
  | 0 => ((cc0_scratch7.slice (Rect.unit (s := S3) ![0] S1.size inb_S3_S1_0)).squeeze S_ squeezes_S1_S_).sem
  | 1 => ((cc0_scratch7.slice (Rect.unit (s := S3) ![1] S1.size inb_S3_S1_1)).squeeze S_ squeezes_S1_S_).sem
  | 2 => ((cc0_scratch7.slice (Rect.unit (s := S3) ![2] S1.size inb_S3_S1_2)).squeeze S_ squeezes_S1_S_).sem
  | 3 => cc0_scratch9.sem
/-- and the one an arrival from a peer counts on. -/
abbrev recvS : Fin 4 → DmaSem sig
  | 0 => ((cc0_scratch8.slice (Rect.unit (s := S3) ![0] S1.size inb_S3_S1_0)).squeeze S_ squeezes_S1_S_).sem
  | 1 => ((cc0_scratch8.slice (Rect.unit (s := S3) ![1] S1.size inb_S3_S1_1)).squeeze S_ squeezes_S1_S_).sem
  | 2 => ((cc0_scratch8.slice (Rect.unit (s := S3) ![2] S1.size inb_S3_S1_2)).squeeze S_ squeezes_S1_S_).sem
  | 3 => cc0_scratch10.sem

abbrev barCell (c : Dev nD) : GSem nD τ sig := ((c : Thread nD τ), .reg barS)
abbrev sendCell (c : Dev nD) (j : Fin 4) : GSem nD τ sig := ((c : Thread nD τ), .dma (sendS j))
abbrev recvCell (c : Dev nD) (j : Fin 4) : GSem nD τ sig := ((c : Thread nD τ), .dma (recvS j))

/-- What a semaphore is for. -/
inductive Role where
  | bar
  | send (j : Fin 4)
  | recv (j : Fin 4)
  | other
  deriving DecidableEq

/-- What a semaphore is for. -/
def role : SemLoc sig → Role
  | .reg _ => .bar
  | .dma q => match q.val with
    | 6 => .send 0 | 7 => .send 1 | 8 => .send 2 | 12 => .send 3
    | 9 => .recv 0 | 10 => .recv 1 | 11 => .recv 2 | 13 => .recv 3
    | _ => .other

/-- The roles of the barrier, of a send semaphore and of a receive semaphore. -/
theorem role_bar : role (.reg barS) = .bar := rfl
theorem role_send (j : Fin 4) : role (.dma (sendS j)) = .send j := by revert j; decide
theorem role_recv (j : Fin 4) : role (.dma (recvS j)) = .recv j := by revert j; decide

/-- The units one transfer credits at each end: a slot's, and the second array's. -/
abbrev nA : ℕ := (slotM rcvM 0).view.dmaCredit
abbrev nB : ℕ := landM.view.dmaCredit
abbrev units (j : Fin 4) : ℕ := if j = 3 then nB else nA
/-- Each transfer counts something. -/
theorem nA_pos : 0 < nA := View.dmaCredit_pos _ (by decide)
theorem nB_pos : 0 < nB := View.dmaCredit_pos _ (by decide)
theorem units_pos (j : Fin 4) : 0 < units j := by unfold units; split; exact nB_pos; exact nA_pos

/-! ## What is handed over -/

/-- Slot `j` of device `c`'s landing array (`3`: its second landing array), holding anything. -/
def landing (c : Dev nD) : Fin 4 → sProp 𝕄
  | 0 => iprop(∃ f, (slotM rcvM 0).view.loc (c : Thread nD τ) ↦[(slotM rcvM 0).view.set]{fullShare} f)
  | 1 => iprop(∃ f, (slotM rcvM 1).view.loc (c : Thread nD τ) ↦[(slotM rcvM 1).view.set]{fullShare} f)
  | 2 => iprop(∃ f, (slotM rcvM 2).view.loc (c : Thread nD τ) ↦[(slotM rcvM 2).view.set]{fullShare} f)
  | 3 => iprop(∃ f, landM.view.loc (c : Thread nD τ) ↦[landM.view.set]{fullShare} f)

/-- The same, holding what the protocol's transfer leaves there. -/
def landed (c : Dev nD) : Fin 4 → sProp 𝕄
  | 0 => (slotM rcvM 0).view.loc (c : Thread nD τ) ↦[(slotM rcvM 0).view.set]{fullShare} landedA m c
  | 1 => (slotM rcvM 1).view.loc (c : Thread nD τ) ↦[(slotM rcvM 1).view.set]{fullShare} landedA m c
  | 2 => (slotM rcvM 2).view.loc (c : Thread nD τ) ↦[(slotM rcvM 2).view.set]{fullShare} landedA m c
  | 3 => landM.view.loc (c : Thread nD τ) ↦[landM.view.set]{fullShare} landedB m c

/-- What device `c` lends its transfer to peer `j` and gets back when it has left. -/
def staged (c : Dev nD) : Fin 4 → sProp 𝕄
  | 0 => (slotM stgM 0).view.loc (c : Thread nD τ) ↦[(slotM stgM 0).view.set]{fullShare} stagedA m c
  | 1 => (slotM stgM 1).view.loc (c : Thread nD τ) ↦[(slotM stgM 1).view.set]{fullShare} stagedA m c
  | 2 => (slotM stgM 2).view.loc (c : Thread nD τ) ↦[(slotM stgM 2).view.set]{fullShare} stagedA m c
  | 3 => lastM.view.loc (c : Thread nD τ) ↦[lastM.view.set]{fullShare} stagedB m c

/-- What peer `j`'s signal to device `c` hands over: the peer's landing slot `j`, and that the peer's receive semaphore
    for it is at its first round. -/
def barPay (c : Dev nD) (j : Fin 4) : sProp 𝕄 := iprop(landing (peer c j) j ∗ reached ER (recvCell (peer c j) j) 0)

instance landing_storable (c : Dev nD) (j : Fin 4) : BI.Storable (upEmb : UEmb _ 𝕄) (landing (F := F) c j) := by
  match j with | 0 | 1 | 2 | 3 => unfold landing; infer_instance
instance landed_storable (c : Dev nD) (j : Fin 4) : BI.Storable (upEmb : UEmb _ 𝕄) (landed m c j) := by
  match j with | 0 | 1 | 2 | 3 => unfold landed; infer_instance
instance staged_storable (c : Dev nD) (j : Fin 4) : BI.Storable (upEmb : UEmb _ 𝕄) (staged m c j) := by
  match j with | 0 | 1 | 2 | 3 => unfold staged; infer_instance
instance barPay_storable (c : Dev nD) (j : Fin 4) : BI.Storable (upEmb : UEmb _ 𝕄) (barPay (F := F) c j) := by
  unfold barPay; infer_instance

/-! ## The schedule -/

/-- One round. A barrier cell has one duty of one unit for each of the four peers; a send or a receive cell has one duty,
    its transfer's. -/
def rd : Rounds.Schedule (GSem nD τ sig) (Fin 4) 𝕄 where
  duties g r := if r = 0 ∧ g.1.2 = .tc then (match role g.2 with
    | .bar => Finset.univ
    | .send _ => {0}
    | .recv _ => {0}
    | .other => ∅) else ∅
  unitless _ := False
  amount g _ _ := match role g.2 with
    | .send j => units j
    | .recv j => units j
    | _ => 1
  payload g _ d := match role g.2 with
    | .bar => barPay g.1.1 d
    | .send j => staged m g.1.1 j
    | .recv j => landed m g.1.1 j
    | .other => iprop(emp)
  amount_pos g _ _ _ := by
    split
    · exact units_pos _
    · exact units_pos _
    · exact Nat.one_pos

instance rd_payload_storable (g : GSem nD τ sig) (r : ℕ) (d : Fin 4) : BI.Storable (upEmb : UEmb _ 𝕄) ((rd m).payload g r d) := by
  show BI.Storable upEmb (match role g.2 with
    | .bar => barPay g.1.1 d | .send j => staged m g.1.1 j | .recv j => landed m g.1.1 j | .other => iprop(emp))
  split <;> infer_instance

section Tables
variable (c : Dev nD) (j d : Fin 4)

/-- The duties of the barrier's one round, one for each peer, and of a transfer's two cells; there is no later round. -/
theorem duties_bar : (rd m).duties (barCell c) 0 = {0, 1, 2, 3} := by
  dsimp only [rd]; rw [if_pos ⟨rfl, rfl⟩, role_bar]; decide
theorem duties_send : (rd m).duties (sendCell c j) 0 = {0} := by
  dsimp only [rd]; rw [if_pos ⟨rfl, rfl⟩, role_send]
theorem duties_recv : (rd m).duties (recvCell c j) 0 = {0} := by
  dsimp only [rd]; rw [if_pos ⟨rfl, rfl⟩, role_recv]
theorem duties_later (g : GSem nD τ sig) : ∀ r, 1 ≤ r → (rd m).duties g r = ∅ :=
  fun r hr => by dsimp only [rd]; rw [if_neg fun h => by omega]

/-- What each duty pays in. -/
theorem amount_bar : (rd m).amount (barCell c) 0 d = 1 := by dsimp only [rd]; rw [role_bar]
theorem amount_send : (rd m).amount (sendCell c j) 0 d = units j := by dsimp only [rd]; rw [role_send]
theorem amount_recv : (rd m).amount (recvCell c j) 0 d = units j := by dsimp only [rd]; rw [role_recv]

/-- What each duty hands over. -/
theorem payload_bar : (rd m).payload (barCell c) 0 d = barPay c d := by dsimp only [rd]; rw [role_bar]
theorem payload_send : (rd m).payload (sendCell c j) 0 d = staged m c j := by dsimp only [rd]; rw [role_send]
theorem payload_recv : (rd m).payload (recvCell c j) 0 d = landed m c j := by dsimp only [rd]; rw [role_recv]

/-- What each round counts up to. -/
theorem expect_bar : (rd m).expect (barCell c) 0 = 4 := by
  unfold Schedule.expect Schedule.amountOf
  rw [duties_bar, Finset.sum_congr rfl fun d _ => amount_bar m c d]; rfl
theorem expect_send : (rd m).expect (sendCell c j) 0 = units j := by
  unfold Schedule.expect Schedule.amountOf; rw [duties_send, Finset.sum_singleton, amount_send]
theorem expect_recv : (rd m).expect (recvCell c j) 0 = units j := by
  unfold Schedule.expect Schedule.amountOf; rw [duties_recv, Finset.sum_singleton, amount_recv]

/-- The whole round of a barrier cell: what the four peers hand over. -/
theorem rest_bar : bigSep ((rd m).duties (barCell c) 0 \ ∅) (fun d => (rd m).payload (barCell c) 0 d)
    = iprop(barPay c 0 ∗ barPay c 1 ∗ barPay c 2 ∗ barPay c 3) := by
  rw [Finset.sdiff_empty, duties_bar, show ({0, 1, 2, 3} : Finset (Fin 4)) = Finset.univ by decide,
    bigSep_univ_eq_bigSepL [0, 1, 2, 3] (by decide) (by decide)]
  simp only [bigSepL_cons_cons, bigSepL_singleton, payload_bar]; rfl
/-- The whole round of a send cell. -/
theorem rest_send : bigSep ((rd m).duties (sendCell c j) 0 \ ∅) (fun d => (rd m).payload (sendCell c j) 0 d) = staged m c j := by
  rw [Finset.sdiff_empty, duties_send, bigSep_singleton, payload_send]
/-- The whole round of a receive cell. -/
theorem rest_recv : bigSep ((rd m).duties (recvCell c j) 0 \ ∅) (fun d => (rd m).payload (recvCell c j) 0 d) = landed m c j := by
  rw [Finset.sdiff_empty, duties_recv, bigSep_singleton, payload_recv]

end Tables

/-! ## What each device owes, and the order of waiting -/

/-- Device `c` owes its mirror the second transfer's credit; -/
def owedB (c : Dev nD) : CellTallies nD τ sig Unit := tallyAt (recvCell (peer c 3) 3) () nB
/-- that and the credits of the three transfers to its mates; -/
def owedA (c : Dev nD) : CellTallies nD τ sig Unit :=
  owedB c + tallyAt (recvCell (peer c 2) 2) () nA + tallyAt (recvCell (peer c 1) 1) () nA + tallyAt (recvCell (peer c 0) 0) () nA
/-- at launch, those and one unit on the barrier of each of its four peers. -/
def O₀ (c : Dev nD) : CellTallies nD τ sig Unit :=
  owedA c + tallyAt (barCell (peer c 3)) () 1 + tallyAt (barCell (peer c 2)) () 1 + tallyAt (barCell (peer c 1)) () 1 + tallyAt (barCell (peer c 0)) () 1

/-- The devices' cells carry one tally each. -/
def L (g : GSem nD τ sig) : Finset Unit := if g.1.2 = .tc then {()} else ∅
/-- Barriers come first, then the mates' transfers, then the mirror's; staging and send semaphores lie below all. -/
def lv (g : GSem nD τ sig) (_ : Unit) : ℕ := match role g.2 with
  | .bar => 1
  | .recv j => if j = 3 then 3 else 2
  | _ => 0

/-- No other core's semaphore carries one. -/
theorem L_of_ne (g : GSem nD τ sig) (h : g.1.2 ≠ .tc) : L g = ∅ := if_neg h
/-- A device's semaphore does. -/
theorem L_tc (c : Dev nD) (sm : SemLoc sig) : L ((c : Thread nD τ), sm) = {()} := if_pos rfl

/-- A tally at one cell is nowhere else. -/
theorem tally_cell {g g' : GSem nD τ sig} {n : ℕ} {u : Unit} (h : 0 < tallyAt g' () n g u) : g = g' := by
  rw [tallyAt_apply] at h
  by_contra hn
  rw [if_neg fun h' => hn h'.1] at h
  exact Nat.lt_irrefl 0 h

/-- The second exchange is owed to the mirror alone, -/
theorem owedB_pos {c : Dev nD} {g : GSem nD τ sig} {u : Unit} (h : 0 < owedB c g u) : g = recvCell (peer c 3) 3 := tally_cell h

/-- the first to the mates' receive cells, -/
theorem owedA_pos {c : Dev nD} {g : GSem nD τ sig} {u : Unit} (h : 0 < owedA c g u) : ∃ j, g = recvCell (peer c j) j := by
  unfold owedA at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact ⟨3, owedB_pos h⟩
      · exact ⟨2, tally_cell h⟩
    · exact ⟨1, tally_cell h⟩
  · exact ⟨0, tally_cell h⟩

/-- and at the start a device owes its peers' barriers and receive cells, nothing else. -/
theorem O₀_pos {c : Dev nD} {g : GSem nD τ sig} {u : Unit} (h : 0 < O₀ c g u) :
    ∃ j, g = recvCell (peer c j) j ∨ g = barCell (peer c j) := by
  unfold O₀ at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · rcases Nat.add_pos_iff_pos_or_pos.mp h with h | h
        · obtain ⟨j, h⟩ := owedA_pos h; exact ⟨j, .inl h⟩
        · exact ⟨3, .inr (tally_cell h)⟩
      · exact ⟨2, .inr (tally_cell h)⟩
    · exact ⟨1, .inr (tally_cell h)⟩
  · exact ⟨0, .inr (tally_cell h)⟩

/-- The barrier comes first, then the mates' arrivals, then the mirror's. -/
theorem lv_bar (c : Dev nD) (u) : lv (barCell c) u = 1 := by dsimp only [lv]; rw [role_bar]
theorem lv_recv (c : Dev nD) (j : Fin 4) (u) : lv (recvCell c j) u = if j = 3 then 3 else 2 := by dsimp only [lv]; rw [role_recv]

omit [FloatOps F] in
/-- A device may wait on a semaphore of its own at level `k` when all it owes lies on tensor cores, above `k`. -/
theorem mayWait_of (c : Dev nD) (sm : SemLoc sig) (O : CellTallies nD τ sig Unit) (k : ℕ) (hk : lv ((c : Thread nD τ), sm) () = k)
    (h : ∀ g u, 0 < O g u → g.1.2 = .tc ∧ k < lv g u) : (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by rw [show L g = {()} from if_pos (h g u hg).1]; exact Finset.mem_singleton_self _)
    (fun p hp => by rw [Finset.mem_singleton.mp hp]; exact hk.le) (fun g u hg => (h g u hg).2)

omit [FloatOps F] in
/-- Before the barrier a device may wait for its staging copies, whatever it owes of what it owed at launch. -/
theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  refine mayWait_of c _ O 0 (by dsimp only [lv]; rw [hq]) fun g u hg => ?_
  rcases hO with rfl | rfl
  · obtain ⟨j, rfl | rfl⟩ := O₀_pos hg
    · exact ⟨rfl, by rw [lv_recv]; split <;> decide⟩
    · exact ⟨rfl, by rw [lv_bar]; decide⟩
  · exact absurd hg (Nat.lt_irrefl 0)

omit [FloatOps F] in
/-- At its barrier a device owes transfers only. -/
theorem mayWait_bar (c : Dev nD) : (levAts L lv : sProp 𝕄) ⊢ MayWait (c : Thread nD τ) (.reg barS) () (owedA c) :=
  mayWait_of c _ _ 1 (lv_bar c ()) fun g u hg => by
    obtain ⟨j, rfl⟩ := owedA_pos hg
    exact ⟨rfl, by rw [lv_recv]; split <;> decide⟩

omit [FloatOps F] in
/-- Waiting for a mate's transfer it owes its mirror's transfer only. -/
theorem mayWait_mate (c : Dev nD) (j : Fin 4) (hj : j ≠ 3) : (levAts L lv : sProp 𝕄) ⊢ MayWait (c : Thread nD τ) (.dma (recvS j)) () (owedB c) :=
  mayWait_of c _ _ 2 ((lv_recv c j ()).trans (if_neg hj)) fun g u hg => by
    rw [owedB_pos hg]; exact ⟨rfl, by rw [lv_recv]; decide⟩

end Cert.Moe

end
-- ==== Proof.Steps.lean ====
/-
# One step of the exchange, for any peer

The statements by which a device pays and waits, each stated once for every peer: the signal to peer `j`, the transfer
to peer `j`, the waits for what peer `j`'s transfer leaves and for one's own transfer to have left.
-/
module

public import proofs.«01_k».proof.Proof.Protocol

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop of the kernel needs a variant. -/
abbrev 𝒱₀ : Variants := Variants.none

/-! ## The kernel's own numbers for its peers and their rows -/

/-- The device each signal and each transfer names is the peer it is meant for. -/
theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := Fin.ext (k0_dev4_eq c)
theorem dev5_eq (c : Dev nD) : (⟨k0_dev5 c, k0_dev5_lt c⟩ : Dev nD) = peer c 0 := by revert c; decide +kernel
theorem dev6_eq (c : Dev nD) : (⟨k0_dev6 c, k0_dev6_lt c⟩ : Dev nD) = peer c 1 := by revert c; decide +kernel
theorem dev7_eq (c : Dev nD) : (⟨k0_dev7 c, k0_dev7_lt c⟩ : Dev nD) = peer c 2 := by revert c; decide +kernel
theorem dev8_eq (c : Dev nD) : (⟨k0_dev8 c, k0_dev8_lt c⟩ : Dev nD) = peer c 3 := Fin.ext (k0_dev8_eq c)

/-! ## Slots -/

/-- The part of an array of three slots that starts at slot `o`, as a transfer names it. -/
abbrev slotAt (M : Memref sig .tc .vmem S3x128x512 .bf16) (o : ℕ) (h : ∀ a, (![o, 0, 0] : Fin 3 → ℕ) a + S1x128x512.size a ≤ S3x128x512.size a) :
    Memref sig .tc .vmem S128x512 .bf16 :=
  (M.slice (Rect.unit (s := S3x128x512) ![o, 0, 0] S1x128x512.size h) (fun _ => rfl)).squeeze S128x512 squeezes_S1x128x512_S128x512

section Slot
variable {o : ℕ} (h : ∀ a, (![o, 0, 0] : Fin 3 → ℕ) a + S1x128x512.size a ≤ S3x128x512.size a)

/-- An index lies in a slot if its first coordinate is the slot's. -/
theorem mem_slot_rect (i : S3x128x512.Idx) : Iff (i ∈ (Rect.unit (s := S3x128x512) ![o, 0, 0] S1x128x512.size h).set) ((i 0).val = o) := by
  rw [LoadRect.mem_set]
  constructor
  · intro hi
    obtain ⟨j, hj, e⟩ := hi 0
    have hj' : j < 1 := hj
    have e' : (i 0).val = o + 1 * j := e
    omega
  · intro e a
    have hi := (i a).isLt
    match a with
    | 0 => exact ⟨0, Nat.one_pos, e⟩
    | 1 => exact ⟨(i 1).val, hi, by show _ = 0 + 1 * _; omega⟩
    | 2 => exact ⟨(i 2).val, hi, by show _ = 0 + 1 * _; omega⟩

/-- Slot `o` of the staging array, and of the landing array: the elements whose first coordinate is `o`. -/
theorem set_slot_stg : (slotAt stgM o h).view.set = (Rect.unit (s := S3x128x512) ![o, 0, 0] S1x128x512.size h).set :=
  (View.set_reshape _ _).trans (View.set_slice_whole _ _)
/-- The indices a slot of the landing array covers. -/
theorem set_slot_rcv : (slotAt rcvM o h).view.set = (Rect.unit (s := S3x128x512) ![o, 0, 0] S1x128x512.size h).set :=
  (View.set_reshape _ _).trans (View.set_slice_whole _ _)

/-- A transfer from a slot of the staging array to the same slot of the landing array leaves there what it found. -/
theorem carried (fd : (cc0_scratch4 : Ref sig .tc).ty.Contents (Elt F)) (fs : (cc0_scratch3 : Ref sig .tc).ty.Contents (Elt F))
    (i : S3x128x512.Idx) (hi : i ∈ ((slotAt rcvM o h).view.set : Finset S3x128x512.Idx)) :
    ((slotAt rcvM o h).view.write (Elt F) fd ((slotAt stgM o h).view.read (Elt F) fs) Finset.univ : S3x128x512.Idx → F .bf16) i = fs i := by
  obtain ⟨k, -, rfl⟩ := Finset.mem_map.mp hi
  exact View.write_emb_of_mem _ _ (Finset.mem_univ k)

end Slot

/-! ## Paying -/

/-- The credit that pays for a wait: for what peer `j`'s transfer leaves, and for one's own transfer to peer `j` to have left. -/
def landCred (c : Dev nD) (j : Fin 4) : sProp 𝕄 := cred (tallyAt (recvCell c j) () (units j))
/-- The credit a device holds until its send to peer `j` has left. -/
def sendCred (c : Dev nD) (j : Fin 4) : sProp 𝕄 := cred (tallyAt (sendCell c j) () (units j))

section Pay
variable {m} {c : Dev nD}

/-- The signal to peer `j`, named `n`: it hands over the device's own landing slot for that peer's transfer. -/
theorem signal_peer (j : Fin 4) (n : Dev nD) (hn : n = peer c j) (κ : ℕ) {α : Type} {Q : α → sProp 𝕄} {k : PUnit → Prog (TpuEff nD τ sig (Elt F) Λ₀ .tc) α}
    (O : CellTallies nD τ sig Unit) (W : Waits sig Unit) :
    iprop(cellInv ER (rd m) κ (barCell (peer c j)) ∗ owes (c : Thread nD τ) (O + tallyAt (barCell (peer c j)) () 1) W
        ∗ dutyTok ER (barCell (peer c j)) 0 (rev j) ∗ landing c (rev j) ∗ reached ER (recvCell c (rev j)) 0 ∗ reached ER (barCell (peer c j)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  iintro ⟨#HI, HO, Ht, Hl, #Hr, #Hb⟩
  iapply (Rounds.wp_signal 𝒱₀ ER (rd m) (c : Thread nD τ) none (dst := (peer c j : Thread nD τ)) (κ := κ) (r := 0) (d := rev j)
    (by rw [duties_bar]; revert j; decide) (amount_bar m (peer c j) (rev j)) () O rfl)
  isplitr; · iexact HI
  isplitl [HO]; · iexact HO
  isplitl [Ht]; · iexact Ht
  isplitl [Hl]
  · rw [payload_bar]; unfold barPay; rw [peer_rev]
    isplitl [Hl]; · iexact Hl
    iexact Hr
  iexact Hb

/-- What a transfer to mate `j` leaves there is what the protocol says it leaves. -/
theorem landedA_of (j : Fin 4) (i : S3x128x512.Idx) (hi : (i 0).castSucc = j) :
    (landedA m (peer c j) : S3x128x512.Idx → F .bf16) i = (stagedA m c : S3x128x512.Idx → F .bf16) i := by
  show (stagedA m (peer (peer c j) (rev (i 0).castSucc)) : S3x128x512.Idx → F .bf16) i = _
  rw [hi, peer_rev]

/-- The transfer of slot `o` to mate `j`, named `n`. -/
theorem send_mate (j : Fin 4) (n : Dev nD) (hn : n = peer c j) {o : ℕ} (h : ∀ a, (![o, 0, 0] : Fin 3 → ℕ) a + S1x128x512.size a ≤ S3x128x512.size a)
    (ho : o = j.val) (hu : units j = nA)
    (hst : staged m c j = ((slotAt stgM o h).view.loc (c : Thread nD τ) ↦[(slotAt stgM o h).view.set]{fullShare} stagedA m c : sProp 𝕄))
    (hld : landed m (peer c j) j = ((slotAt rcvM o h).view.loc (peer c j : Thread nD τ) ↦[(slotAt rcvM o h).view.set]{fullShare} landedA m (peer c j) : sProp 𝕄))
    (hlg : landing (F := F) (peer c j) j = iprop(∃ f, (slotAt rcvM o h).view.loc (peer c j : Thread nD τ) ↦[(slotAt rcvM o h).view.set]{fullShare} f))
    (κ₁ κ₂ : ℕ)
    {hsc : (slotAt rcvM o h : Memref sig (Dev.tc n : Thread nD τ).2.kind .vmem S128x512 .bf16).view.ref.isScScratch = false}
    {hsrc : (slotAt stgM o h).view.WordExact} {hdst : (slotAt rcvM o h).view.WordExact}
    {hsem : DmaTarget.Typed .vmem (.dma (recvS j)) (.remote (Dev.tc n : Thread nD τ) (slotAt rcvM o h) (.dma (sendS j)) hsc)}
    {α : Type} {Q : α → sProp 𝕄} {k : PUnit → Prog (TpuEff nD τ sig (Elt F) Λ₀ .tc) α} (O : CellTallies nD τ sig Unit) (W : Waits sig Unit) :
    iprop(cellInv ER (rd m) κ₁ (sendCell c j) ∗ cellInv ER (rd m) κ₂ (recvCell (peer c j) j) ∗ staged m c j ∗ landing (peer c j) j
        ∗ owes (c : Thread nD τ) (O + tallyAt (recvCell (peer c j) j) () nA) W ∗ dutyTok ER (sendCell c j) 0 0 ∗ reached ER (sendCell c j) 0
        ∗ dutyTok ER (recvCell (peer c j) j) 0 0 ∗ reached ER (recvCell (peer c j) j) 0)
      ⊢ iprop(((sendCred c j ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (slotAt stgM o h) (.remote (Dev.tc n : Thread nD τ) (slotAt rcvM o h) (.dma (sendS j)) hsc) (.dma (recvS j)) hsrc hdst hsem) k) Q) := by
  subst hn
  unfold sendCred
  rw [hst, hlg, hu]
  iintro ⟨#HI1, #HI2, Hs, ⟨%fd, Hl⟩, HO, Ht1, #Hr1, Ht2, #Hr2⟩
  iapply (Rounds.wp_send_pointsTo 𝒱₀ ER (rd m) (c : Thread nD τ) none (κ₁ := κ₁) (κ₂ := κ₂) (r₁ := 0) (r₂ := 0) (d₁ := 0) (d₂ := 0) (fd := fd)
    (by rw [duties_send]; exact Finset.mem_singleton_self _) (by rw [duties_recv]; exact Finset.mem_singleton_self _)
    () () nA rfl ((amount_send m c j 0).trans hu) ((amount_recv m (peer c j) j 0).trans hu) O rfl (W := W)
    (by rw [payload_send, hst])
    (by
      rw [payload_recv, hld]
      refine Entails.of_eq (pointsTo_congr fun i hi => ?_)
      refine (carried h fd (stagedA m c) i hi).trans ?_
      exact (landedA_of j i (Fin.ext (((mem_slot_rect h i).mp ((set_slot_rcv h) ▸ hi)).trans ho))).symm))
  isplitr; · iexact HI1
  isplitr; · iexact HI2
  isplitl [Hs]; · iexact Hs
  isplitl [Hl]; · iexact Hl
  isplitl [HO]; · iexact HO
  isplitl [Ht1]; · iexact Ht1
  isplitr; · iexact Hr1
  isplitl [Ht2]; · iexact Ht2
  iexact Hr2

/-- The transfer of the second array to the mirror, named `n`. -/
theorem send_mirror (n : Dev nD) (hn : n = peer c 3) (κ₁ κ₂ : ℕ)
    {hsc : (landM : Memref sig (Dev.tc n : Thread nD τ).2.kind .vmem S64x512 .bf16).view.ref.isScScratch = false}
    {hsrc : (lastM : Memref sig .tc .vmem S64x512 .bf16).view.WordExact} {hdst : (landM : Memref sig .tc .vmem S64x512 .bf16).view.WordExact}
    {hsem : DmaTarget.Typed .vmem (.dma (recvS 3)) (.remote (Dev.tc n : Thread nD τ) landM (.dma (sendS 3)) hsc)}
    {α : Type} {Q : α → sProp 𝕄} {k : PUnit → Prog (TpuEff nD τ sig (Elt F) Λ₀ .tc) α} (W : Waits sig Unit) :
    iprop(cellInv ER (rd m) κ₁ (sendCell c 3) ∗ cellInv ER (rd m) κ₂ (recvCell (peer c 3) 3) ∗ staged m c 3 ∗ landing (peer c 3) 3
        ∗ owes (c : Thread nD τ) (owedB c) W ∗ dutyTok ER (sendCell c 3) 0 0 ∗ reached ER (sendCell c 3) 0
        ∗ dutyTok ER (recvCell (peer c 3) 3) 0 0 ∗ reached ER (recvCell (peer c 3) 3) 0)
      ⊢ iprop(((sendCred c 3 ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma lastM (.remote (Dev.tc n : Thread nD τ) landM (.dma (sendS 3)) hsc) (.dma (recvS 3)) hsrc hdst hsem) k) Q) := by
  subst hn
  unfold staged landing owedB sendCred
  rw [show units 3 = nB from rfl]
  iintro ⟨#HI1, #HI2, Hs, ⟨%fd, Hl⟩, HO, Ht1, #Hr1, Ht2, #Hr2⟩
  iapply (Rounds.wp_send_pointsTo 𝒱₀ ER (rd m) (c : Thread nD τ) none (κ₁ := κ₁) (κ₂ := κ₂) (r₁ := 0) (r₂ := 0) (d₁ := 0) (d₂ := 0) (fd := fd)
    (by rw [duties_send]; exact Finset.mem_singleton_self _) (by rw [duties_recv]; exact Finset.mem_singleton_self _)
    () () nB rfl (amount_send m c 3 0) (amount_recv m (peer c 3) 3 0) 0 (by rw [zero_add]) (W := W)
    (by rw [payload_send]; exact BI.Entails.refl _)
    (by
      rw [payload_recv]; unfold landed landedB mirror
      rw [show peer (peer c 3) 3 = c from peer_rev c 3]
      refine Entails.of_eq (pointsTo_congr fun i hi => ?_)
      obtain ⟨x, -, rfl⟩ := Finset.mem_map.mp hi
      exact View.write_emb_of_mem _ _ (Finset.mem_univ x)))
  isplitr; · iexact HI1
  isplitr; · iexact HI2
  isplitl [Hs]; · iexact Hs
  isplitl [Hl]; · iexact Hl
  isplitl [HO]; · iexact HO
  isplitl [Ht1]; · iexact Ht1
  isplitr; · iexact Hr1
  isplitl [Ht2]; · iexact Ht2
  iexact Hr2

end Pay

/-! ## Waiting -/

section Wait
variable {m} {c : Dev nD}

/-- The wait at the device's own barrier: every peer's landing slot for its transfer comes with it. -/
theorem wait_bar (κ : ℕ) {α : Type} {Q : α → sProp 𝕄} {k : PUnit → Prog (TpuEff nD τ sig (Elt F) Λ₀ .tc) α} (W : Waits sig Unit) :
    iprop(cellInv ER (rd m) κ (barCell c) ∗ cred (tallyAt (barCell c) () 4) ∗ owes (c : Thread nD τ) (owedA c) W ∗ levAts L lv ∗ atPos ER (barCell c) 0 ∅ 0)
      ⊢ iprop(((∃ W, owes (c : Thread nD τ) (owedA c) W) ∗ atPos ER (barCell c) 1 ∅ 0
            ∗ landing (peer c 0) 0 ∗ landing (peer c 1) 1 ∗ landing (peer c 2) 2 ∗ landing (peer c 3) 3
          -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 4) k) Q) := by
  iintro ⟨#HI, Hc, HO, #Hlev, Hat⟩ Hk
  iapply (Rounds.wp_wait_rest_token 𝒱₀ ER (rd m) (c : Thread nD τ) none (κ := κ)
      (wpE_semWait_eq 𝒱₀ (c : Thread nD τ) none Set.univ) (Set.mem_univ _) () (O := owedA c) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  unfold barPay
  icases Hp with ⟨⟨H0, -⟩, ⟨H1, -⟩, ⟨H2, -⟩, ⟨H3, -⟩⟩
  iapply Hk
  isplitl [HO]; · iexists _; iexact HO
  isplitl [Hat]; · iexact Hat
  isplitl [H0]; · iexact H0
  isplitl [H1]; · iexact H1
  isplitl [H2]; · iexact H2
  iexact H3

/-- The wait for what peer `j`'s transfer leaves in slot `j`: the landing slot comes with it. -/
theorem wait_recv (j : Fin 4) (κ : ℕ) {sp sp' : Space} {s s' : Shape} {e e' : EltTy} {src : Memref sig .tc sp s e} {dst : Memref sig .tc sp' s' e'}
    {h1 : src.view.WordExact} {h2 : dst.view.WordExact}
    (hu : dst.view.dmaCredit = units j) {α : Type} {Q : α → sProp 𝕄} {k : PUnit → Prog (TpuEff nD τ sig (Elt F) Λ₀ .tc) α} (O : CellTallies nD τ sig Unit) (W : Waits sig Unit) :
    iprop(cellInv ER (rd m) κ (recvCell c j) ∗ landCred c j ∗ owes (c : Thread nD τ) O W
        ∗ MayWait (c : Thread nD τ) (.dma (recvS j)) () O ∗ atPos ER (recvCell c j) 0 ∅ 0)
      ⊢ iprop(((∃ W, owes (c : Thread nD τ) O W) ∗ atPos ER (recvCell c j) 1 ∅ 0 ∗ landed m c j
          -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS j) src dst h1 h2) k) Q) := by
  unfold landCred
  iintro ⟨#HI, Hc, HO, HW, Hat⟩ Hk
  iapply (Rounds.wp_wait_rest_token 𝒱₀ ER (rd m) (c : Thread nD τ) none (κ := κ)
      (wpE_waitDma2_eq 𝒱₀ (c : Thread nD τ) none Set.univ) (Set.mem_univ _) () (O := O) (W := W) (R := 0) (m := 0) (T := ∅)
      (by rw [Nat.zero_add, expect_recv, hu])) $$ [Hc HO HW Hat]
  · isplitr; · iexact HI
    isplitl [Hc]; · rw [hu]; iexact Hc
    isplitl [HO]; · iexact HO
    isplitl [HW]; · iexact HW
    iexact Hat
  iintro ⟨HO, Hat, -, Hpay⟩
  ihave Hp := (Entails.of_eq (rest_recv m c j)) $$ Hpay
  iapply Hk
  isplitl [HO]; · iexists _; iexact HO
  isplitl [Hat]; · iexact Hat
  iexact Hp

/-- The wait for the device's own transfer to peer `j` to have left, when it owes nothing: what it lent comes back. -/
theorem wait_send (j : Fin 4) (κ : ℕ) {sp sp' : Space} {s s' : Shape} {e e' : EltTy} {src : Memref sig .tc sp s e} {dst : Memref sig .tc sp' s' e'}
    {h1 : src.view.WordExact} {h2 : dst.view.WordExact}
    (hu : dst.view.dmaCredit = units j) {α : Type} {Q : α → sProp 𝕄} {k : PUnit → Prog (TpuEff nD τ sig (Elt F) Λ₀ .tc) α} (W : Waits sig Unit) :
    iprop(cellInv ER (rd m) κ (sendCell c j) ∗ sendCred c j ∗ owes (c : Thread nD τ) 0 W ∗ atPos ER (sendCell c j) 0 ∅ 0)
      ⊢ iprop(((∃ W, owes (c : Thread nD τ) 0 W) ∗ atPos ER (sendCell c j) 1 ∅ 0 ∗ staged m c j
          -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) src dst h1 h2) k) Q) := by
  unfold sendCred
  iintro ⟨#HI, Hc, HO, Hat⟩ Hk
  iapply (Rounds.wp_wait_rest_token 𝒱₀ ER (rd m) (c : Thread nD τ) none (κ := κ)
      (wpE_waitDma2_eq 𝒱₀ (c : Thread nD τ) none Set.univ) (Set.mem_univ _) () (O := 0) (W := W) (R := 0) (m := 0) (T := ∅)
      (by rw [Nat.zero_add, expect_send, hu])) $$ [Hc HO Hat]
  · isplitr; · iexact HI
    isplitl [Hc]; · rw [hu]; iexact Hc
    isplitl [HO]; · iexact HO
    isplitr; · rw [MayWait_zero]; iempintro
    iexact Hat
  iintro ⟨HO, Hat, -, Hpay⟩
  ihave Hp := (Entails.of_eq (rest_send m c j)) $$ Hpay
  iapply Hk
  isplitl [HO]; · iexists _; iexact HO
  isplitl [Hat]; · iexact Hat
  iexact Hp

end Wait

end Cert.Moe

end
-- ==== Proof.Stores.lean ====
/-
# What the kernel's stores leave and its loads read

The gate's buffer and the rounded experts' after their stores, a slot of the staging array after its two halves are
stored, and the rows and the landed halves that the kernel loads.
-/
module

public import proofs.«01_k».proof.Proof.Steps
public import Idealize.ShloMosaic.Lib.Ring
public import Idealize.ShloMosaic.Lib.WritesUnit
public import Idealize.ShloMosaic.Lib.Pipeline.Value

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

/-! ## Slots of the two arrays -/

/-- The part of an array that slot `j` is. -/
def slotSet (j : Fin 3) : Finset S3x128x512.Idx := Finset.univ.filter fun i => (i 0).val = j.val

/-- The indices of a slot. -/
theorem mem_slotSet (j : Fin 3) (i : S3x128x512.Idx) : Iff (i ∈ slotSet j) ((i 0).val = j.val) := by
  unfold slotSet; rw [Finset.mem_filter]; exact ⟨fun h => h.2, fun h => ⟨Finset.mem_univ _, h⟩⟩

/-- A slot is the rectangle the kernel names. -/
theorem slotSet_eq (j : Fin 3) (h : ∀ a, (![j.val, 0, 0] : Fin 3 → ℕ) a + S1x128x512.size a ≤ S3x128x512.size a) :
    slotSet j = (Rect.unit (s := S3x128x512) ![j.val, 0, 0] S1x128x512.size h).set := by
  ext i; rw [mem_slot_rect h i, mem_slotSet]

/-- Two slots share no index. -/
theorem slot_disjoint (j j' : Fin 3) (h : j ≠ j') : Disjoint (slotSet j) (slotSet j') :=
  Finset.disjoint_left.mpr fun i hi hi' => h (Fin.ext (((mem_slotSet j i).mp hi).symm.trans ((mem_slotSet j' i).mp hi')))

/-- The three slots are the whole array. -/
theorem slot_cover : Finset.univ.biUnion slotSet = (Finset.univ : Finset S3x128x512.Idx) := by
  ext i
  simp only [Finset.mem_biUnion, Finset.mem_univ, true_and, iff_true]
  exact ⟨i 0, (mem_slotSet (i 0) i).mpr rfl⟩

/-- The three slots of the staging array, each by its rectangle, and of the landing array, each as its transfer names it. -/
theorem rect_slot (j : Fin 3) (h : ∀ a, (![j.val, 0, 0] : Fin 3 → ℕ) a + S1x128x512.size a ≤ S3x128x512.size a) :
    stgM.view.setOn (Rect.unit (s := S3x128x512) ![j.val, 0, 0] S1x128x512.size h).set = slotSet j := by
  rw [slotSet_eq j h]; exact Finset.map_refl

/-! ## The rows the kernel addresses -/

/-- The rows each chunk is read at: the mates' chunks, then their mirrors'. -/
theorem off1_0 : k0_off1 c 1#32 = ![64 * (peer c 0).val, 0] := by revert c; decide +kernel
instance closed1_0 : ClosedOff (k0_off1 c 1#32) := ⟨_, off1_0 c⟩
theorem off1_1 : k0_off1 c 2#32 = ![64 * (peer c 1).val, 0] := by revert c; decide +kernel
instance closed1_1 : ClosedOff (k0_off1 c 2#32) := ⟨_, off1_1 c⟩
theorem off1_2 : k0_off1 c 3#32 = ![64 * (peer c 2).val, 0] := by revert c; decide +kernel
instance closed1_2 : ClosedOff (k0_off1 c 3#32) := ⟨_, off1_2 c⟩
theorem off2_0 : k0_off2 c 1#32 = ![64 * (peer c 0).val, 0] := by revert c; decide +kernel
instance closed2_0 : ClosedOff (k0_off2 c 1#32) := ⟨_, off2_0 c⟩
theorem off2_1 : k0_off2 c 2#32 = ![64 * (peer c 1).val, 0] := by revert c; decide +kernel
instance closed2_1 : ClosedOff (k0_off2 c 2#32) := ⟨_, off2_1 c⟩
theorem off2_2 : k0_off2 c 3#32 = ![64 * (peer c 2).val, 0] := by revert c; decide +kernel
instance closed2_2 : ClosedOff (k0_off2 c 3#32) := ⟨_, off2_2 c⟩
theorem off3_0 : k0_off3 c 1#32 = ![64 * (mirror (peer c 0)).val, 0] := by revert c; decide +kernel
instance closed3_0 : ClosedOff (k0_off3 c 1#32) := ⟨_, off3_0 c⟩
theorem off3_1 : k0_off3 c 2#32 = ![64 * (mirror (peer c 1)).val, 0] := by revert c; decide +kernel
instance closed3_1 : ClosedOff (k0_off3 c 2#32) := ⟨_, off3_1 c⟩
theorem off3_2 : k0_off3 c 3#32 = ![64 * (mirror (peer c 2)).val, 0] := by revert c; decide +kernel
instance closed3_2 : ClosedOff (k0_off3 c 3#32) := ⟨_, off3_2 c⟩
theorem off4_0 : k0_off4 c 1#32 = ![64 * (mirror (peer c 0)).val, 0] := by revert c; decide +kernel
instance closed4_0 : ClosedOff (k0_off4 c 1#32) := ⟨_, off4_0 c⟩
theorem off4_1 : k0_off4 c 2#32 = ![64 * (mirror (peer c 1)).val, 0] := by revert c; decide +kernel
instance closed4_1 : ClosedOff (k0_off4 c 2#32) := ⟨_, off4_1 c⟩
theorem off4_2 : k0_off4 c 3#32 = ![64 * (mirror (peer c 2)).val, 0] := by revert c; decide +kernel
instance closed4_2 : ClosedOff (k0_off4 c 3#32) := ⟨_, off4_2 c⟩

/-! ## The gate and the experts -/

/-- The rounded experts, plane by plane. -/
def ewbC : (cc0_scratch1 : Ref sig .tc).ty.Contents (Elt F) := fun (i : S4x256x512.Idx) =>
  wC m c (i 0) (ix3 (n0 := 1) (n1 := 256) (n2 := 512) 0 (i 1) (i 2))

/-- The gate's buffer after its store. -/
theorem gate_stored (f : (cc0_scratch0 : Ref sig .tc).ty.Contents (Elt F)) (w : Vec F S512x1 .f32) (hw : w = gateC m c) :
    (Memref.whole cc0_scratch0).view.writes (Elt F) f [⟨Rect.unit (s := S512x1) ![0, 0] S512x1.size inb_S512x1_S512x1_0_0, w⟩] = gateC m c :=
  (View.read_writes_full (Memref.whole cc0_scratch0).view f inb_S512x1_S512x1_0_0 w []).trans hw

/-- A plane of the stored matrices. -/
theorem plane_ewb (k : Fin 4) (h : ∀ a, (![k.val, 0, 0] : Fin 3 → ℕ) a + S1x256x512.size a ≤ S4x256x512.size a) :
    window (s := S4x256x512) (ewbC m c) ![k.val, 0, 0] S1x256x512.size h = wC m c k := by
  funext y
  have h0 : (y 0).val = 0 := by have : (y 0).val < 1 := (y 0).isLt; omega
  show wC m c _ _ = wC m c k y
  have e0 : ((Rect.unit (s := S4x256x512) ![k.val, 0, 0] S1x256x512.size h).emb y) 0 = k := Fin.ext (by show k.val + 1 * (y 0).val = k.val; omega)
  rw [e0]
  refine congrArg (wC m c k) (funext fun a => Fin.ext ?_)
  match a with
  | 0 => exact h0.symm
  | 1 => show 0 + 1 * (y 1).val = (y 1).val; omega
  | 2 => show 0 + 1 * (y 2).val = (y 2).val; omega

/-- The shared matrix's buffer after its store. -/
theorem shared_stored (f : (cc0_scratch2 : Ref sig .tc).ty.Contents (Elt F)) :
    (Memref.whole cc0_scratch2).view.writes (Elt F) f [⟨Rect.unit (s := S256x512) ![0, 0] S256x512.size inb_S256x512_S256x512_0_0, k0_pay7 (swC m c)⟩]
      = k0_pay7 (swC m c) := by
  have h := View.read_writes_full (Memref.whole cc0_scratch2).view f inb_S256x512_S256x512_0_0 (k0_pay7 (swC m c)) []
  rw [View.read_whole] at h
  exact h

/-- Four planes stored one after another, read back: the plane that the index names. -/
theorem read_planes {sp : Space} (v : View sig .tc sp S4x256x512 .bf16) (f : v.ty.Contents (Elt F)) (w : Fin 4 → Vec F S1x256x512 .bf16) :
    v.read (Elt F) (v.writes (Elt F) f
      [⟨Rect.unit (s := S4x256x512) ![3, 0, 0] S1x256x512.size inb_S4x256x512_S1x256x512_3_0_0, w 3⟩,
        ⟨Rect.unit (s := S4x256x512) ![2, 0, 0] S1x256x512.size inb_S4x256x512_S1x256x512_2_0_0, w 2⟩,
        ⟨Rect.unit (s := S4x256x512) ![1, 0, 0] S1x256x512.size inb_S4x256x512_S1x256x512_1_0_0, w 1⟩,
        ⟨Rect.unit (s := S4x256x512) ![0, 0, 0] S1x256x512.size inb_S4x256x512_S1x256x512_0_0_0, w 0⟩])
      = fun i => w (i 0) (ix3 (n0 := 1) (n1 := 256) (n2 := 512) 0 (i 1) (i 2)) := by
  funext i
  have hit : ∀ (k : Fin 4) (h : ∀ a, (![k.val, 0, 0] : Fin 3 → ℕ) a + S1x256x512.size a ≤ S4x256x512.size a) (L) (hk : (i 0).val = k.val),
      v.read (Elt F) (v.writes (Elt F) f (⟨Rect.unit (s := S4x256x512) ![k.val, 0, 0] S1x256x512.size h, w k⟩ :: L)) i
        = w (i 0) (ix3 (n0 := 1) (n1 := 256) (n2 := 512) 0 (i 1) (i 2)) := fun k h L hk => by
    refine (View.read_writes_cons_unit_of_mem v f h (w k) L i (ix3 (n0 := 1) (n1 := 256) (n2 := 512) 0 (i 1) (i 2)) rfl (fun a => ?_)).trans ?_
    · match a with
      | 0 => exact hk
      | 1 => exact (Nat.zero_add _).symm
      | 2 => exact (Nat.zero_add _).symm
    · exact congrArg (fun k : Fin 4 => w k (ix3 (n0 := 1) (n1 := 256) (n2 := 512) 0 (i 1) (i 2))) (Fin.ext hk).symm
  have miss : ∀ (k : Fin 4) (h : ∀ a, (![k.val, 0, 0] : Fin 3 → ℕ) a + S1x256x512.size a ≤ S4x256x512.size a) (L) (hk : (i 0).val ≠ k.val),
      v.read (Elt F) (v.writes (Elt F) f (⟨Rect.unit (s := S4x256x512) ![k.val, 0, 0] S1x256x512.size h, w k⟩ :: L)) i
        = v.read (Elt F) (v.writes (Elt F) f L) i := fun k h L hk =>
    View.read_writes_cons_unit_of_not_mem v f h (w k) L i rfl 0
      (by show (i 0).val < k.val ∨ k.val + 1 ≤ (i 0).val; omega)
  by_cases h3 : (i 0).val = 3
  · exact hit 3 _ _ h3
  refine (miss 3 _ _ h3).trans ?_
  by_cases h2 : (i 0).val = 2
  · exact hit 2 _ _ h2
  refine (miss 2 _ _ h2).trans ?_
  by_cases h1 : (i 0).val = 1
  · exact hit 1 _ _ h1
  refine (miss 1 _ _ h1).trans ?_
  exact hit 0 _ _ (by have : (i 0).val < 4 := (i 0).isLt; show (i 0).val = 0; omega)

/-- The matrices' buffer after its four stores. -/
theorem planes_stored (f : (cc0_scratch1 : Ref sig .tc).ty.Contents (Elt F)) :
    (Memref.whole cc0_scratch1).view.writes (Elt F) f
      [⟨Rect.unit (s := S4x256x512) ![3, 0, 0] S1x256x512.size inb_S4x256x512_S1x256x512_3_0_0,
          k0_pay6 (window (s := S4x256x512) (ewC m c) ![3, 0, 0] S1x256x512.size inb_S4x256x512_S1x256x512_3_0_0)⟩,
        ⟨Rect.unit (s := S4x256x512) ![2, 0, 0] S1x256x512.size inb_S4x256x512_S1x256x512_2_0_0,
          k0_pay5 (window (s := S4x256x512) (ewC m c) ![2, 0, 0] S1x256x512.size inb_S4x256x512_S1x256x512_2_0_0)⟩,
        ⟨Rect.unit (s := S4x256x512) ![1, 0, 0] S1x256x512.size inb_S4x256x512_S1x256x512_1_0_0,
          k0_pay4 (window (s := S4x256x512) (ewC m c) ![1, 0, 0] S1x256x512.size inb_S4x256x512_S1x256x512_1_0_0)⟩,
        ⟨Rect.unit (s := S4x256x512) ![0, 0, 0] S1x256x512.size inb_S4x256x512_S1x256x512_0_0_0,
          k0_pay3 (window (s := S4x256x512) (ewC m c) ![0, 0, 0] S1x256x512.size inb_S4x256x512_S1x256x512_0_0_0)⟩] = ewbC m c := by
  have h := read_planes (Memref.whole cc0_scratch1).view f (wC m c)
  rw [View.read_whole] at h
  unfold ewbC
  exact h

/-! ## The rows loaded -/

/-- A load through a whole buffer reads that window of its contents. -/
theorem load_whole (b : Ref sig .tc) (f : b.ty.Contents (Elt F)) (o size : Fin b.ty.shape.rank → ℕ) (inb : ∀ a, o a + size a ≤ b.ty.shape.size a) :
    (Memref.whole b).view.readAt (Elt F) (Rect.unit (s := b.ty.shape) o size inb).toLoadRect f = window (s := b.ty.shape) f o size inb :=
  View.readAt_unit (Memref.whole b).view f inb rfl inb

/-- A load of all of it reads its contents. -/
theorem load_all (b : Ref sig .tc) (f : b.ty.Contents (Elt F)) (o : Fin b.ty.shape.rank → ℕ) (inb : ∀ a, o a + b.ty.shape.size a ≤ b.ty.shape.size a) :
    (Memref.whole b).view.readAt (Elt F) (Rect.unit (s := b.ty.shape) o b.ty.shape.size inb).toLoadRect f = f :=
  View.readAt_full (Memref.whole b).view f inb

/-- What a load of a plane reads. -/
theorem load_plane (k : Fin 4) (h : ∀ a, (![k.val, 0, 0] : Fin 3 → ℕ) a + S1x256x512.size a ≤ S4x256x512.size a) :
    (Memref.whole cc0_scratch1).view.readAt (Elt F) (Rect.unit (s := S4x256x512) ![k.val, 0, 0] S1x256x512.size h).toLoadRect (ewbC m c) = wC m c k :=
  (load_whole cc0_scratch1 (ewbC m c) ![k.val, 0, 0] S1x256x512.size h).trans (plane_ewb m c k h)

/-! ## A slot staged, a half landed -/

/-- A chunk's contribution as it is stored in half a slot. -/
def packed (a : FVec F S64x512 .f32) : FVec F S1x64x512 .bf16 := shapeCast S1x64x512 (truncf .bf16 a bitsLt_bf16_f32) shapeCasts_S64x512_S1x64x512

/-- A slot's two halves stored one after the other, read back at an index of the slot. -/
theorem read_slot {sp : Space} (v : View sig .tc sp S3x128x512 .bf16) (f : v.ty.Contents (Elt F)) (j : Fin 3)
    (h0 : ∀ a, (![j.val, 0, 0] : Fin 3 → ℕ) a + S1x64x512.size a ≤ S3x128x512.size a)
    (h1 : ∀ a, (![j.val, 64, 0] : Fin 3 → ℕ) a + S1x64x512.size a ≤ S3x128x512.size a)
    (a0 a1 : FVec F S64x512 .f32) (i : S3x128x512.Idx) (hj : (i 0).val = j.val) :
    v.read (Elt F) (v.writes (Elt F) f [⟨Rect.unit (s := S3x128x512) ![j.val, 64, 0] S1x64x512.size h1, packed a1⟩,
      ⟨Rect.unit (s := S3x128x512) ![j.val, 0, 0] S1x64x512.size h0, packed a0⟩]) i
      = truncf .bf16 (if (i 1).val < 64 then a0 else a1) bitsLt_bf16_f32 (ix2 (n0 := 64) (n1 := 512) ⟨(i 1).val % 64, Nat.mod_lt _ (by norm_num)⟩ (i 2)) := by
  have hi1 : (i 1).val < 128 := (i 1).isLt
  have read : ∀ (a : FVec F S64x512 .f32) (r : Fin 64) (hr : r.val = (i 1).val % 64), packed a (ix3 (n0 := 1) (n1 := 64) (n2 := 512) 0 r (i 2))
      = truncf .bf16 a bitsLt_bf16_f32 (ix2 (n0 := 64) (n1 := 512) ⟨(i 1).val % 64, Nat.mod_lt _ (by norm_num)⟩ (i 2)) := fun a r hr => by
    refine (shapeCast_addUnit_apply ![64, 512] _ shapeCasts_S64x512_S1x64x512 _).trans ?_
    refine congrArg (truncf .bf16 a bitsLt_bf16_f32) (funext fun b => ?_)
    match b with
    | 0 => exact Fin.ext hr
    | 1 => rfl
  by_cases hh : (i 1).val < 64
  · refine (View.read_writes_cons_unit_of_not_mem v f h1 (packed a1) _ i rfl 1 (Or.inl hh)).trans ?_
    refine (View.read_writes_cons_unit_of_mem v f h0 (packed a0) [] i (ix3 (n0 := 1) (n1 := 64) (n2 := 512) 0 ⟨(i 1).val, hh⟩ (i 2)) rfl (fun a => ?_)).trans ?_
    · match a with
      | 0 => exact hj
      | 1 => exact (Nat.zero_add _).symm
      | 2 => exact (Nat.zero_add _).symm
    · rw [if_pos hh]
      exact read a0 _ (Nat.mod_eq_of_lt hh).symm
  · refine (View.read_writes_cons_unit_of_mem v f h1 (packed a1) _ i (ix3 (n0 := 1) (n1 := 64) (n2 := 512) 0 ⟨(i 1).val - 64, by omega⟩ (i 2)) rfl (fun a => ?_)).trans ?_
    · match a with
      | 0 => exact hj
      | 1 => show (i 1).val = 64 + ((i 1).val - 64); omega
      | 2 => exact (Nat.zero_add _).symm
    · rw [if_neg hh]
      exact read a1 _ (by show (i 1).val - 64 = (i 1).val % 64; omega)

/-- A staging slot after its two stores. -/
theorem slot_stored (j : Fin 3) (f : (cc0_scratch3 : Ref sig .tc).ty.Contents (Elt F))
    (h0 : ∀ a, (![j.val, 0, 0] : Fin 3 → ℕ) a + S1x64x512.size a ≤ S3x128x512.size a)
    (h1 : ∀ a, (![j.val, 64, 0] : Fin 3 → ℕ) a + S1x64x512.size a ≤ S3x128x512.size a) (w0 w1 : Vec F S1x64x512 .bf16)
    (hw0 : w0 = packed (chunkC m c (destOf c j.castSucc 0))) (hw1 : w1 = packed (chunkC m c (destOf c j.castSucc 1)))
    (i : S3x128x512.Idx) (hi : i ∈ slotSet j) :
    stgM.view.writes (Elt F) f [⟨Rect.unit (s := S3x128x512) ![j.val, 64, 0] S1x64x512.size h1, w1⟩,
      ⟨Rect.unit (s := S3x128x512) ![j.val, 0, 0] S1x64x512.size h0, w0⟩] i = stagedA m c i := by
  rw [hw0, hw1]
  have h := read_slot stgM.view f j h0 h1 (chunkC m c (destOf c j.castSucc 0)) (chunkC m c (destOf c j.castSucc 1)) i ((mem_slotSet j i).mp hi)
  have e : ∀ g : (cc0_scratch3 : Ref sig .tc).ty.Contents (Elt F), stgM.view.read (Elt F) g = g := View.read_whole cc0_scratch3
  rw [e] at h
  refine h.trans ?_
  have hj : (i 0 : Fin 3) = j := Fin.ext ((mem_slotSet j i).mp hi)
  unfold stagedA
  rw [hj]
  split <;> rfl

/-- What a load of half a landing slot reads. -/
theorem landed_half (j : Fin 3) (h : Fin 2) (inb : ∀ a, (![j.val, 64 * h.val, 0] : Fin 3 → ℕ) a + S1x64x512.size a ≤ S3x128x512.size a) :
    rcvM.view.readAt (Elt F) (Rect.unit (s := S3x128x512) ![j.val, 64 * h.val, 0] S1x64x512.size inb).toLoadRect (landedA m c) = half m c j h := by
  funext y
  have h0 : (y 0).val = 0 := by have : (y 0).val < 1 := (y 0).isLt; omega
  unfold half
  refine congrArg (landedA m c : S3x128x512.Idx → F .bf16) (funext fun a => Fin.ext ?_)
  match a with
  | 0 => show j.val + 1 * (y 0).val = j.val; omega
  | 1 => show 64 * h.val + 1 * (y 1).val = 64 * h.val + (y 1).val; omega
  | 2 => show 0 + 1 * (y 2).val = (y 2).val; omega

/-! ## The same, held -/

section Held
variable {m} {c}

/-- A slot whose two halves hold the two chunks' contributions is what its transfer lends. -/
theorem stage_slot (j : Fin 3) (f : (cc0_scratch3 : Ref sig .tc).ty.Contents (Elt F))
    (hs : ∀ a, (![j.val, 0, 0] : Fin 3 → ℕ) a + S1x128x512.size a ≤ S3x128x512.size a)
    (h0 : ∀ a, (![j.val, 0, 0] : Fin 3 → ℕ) a + S1x64x512.size a ≤ S3x128x512.size a)
    (h1 : ∀ a, (![j.val, 64, 0] : Fin 3 → ℕ) a + S1x64x512.size a ≤ S3x128x512.size a) (w0 w1 : Vec F S1x64x512 .bf16)
    (hst : staged m c j.castSucc = ((slotAt stgM j.val hs).view.loc (c : Thread nD τ) ↦[(slotAt stgM j.val hs).view.set]{fullShare} stagedA m c : sProp 𝕄)) :
    iprop((stgM.view.loc (c : Thread nD τ) ↦[stgM.view.setOn (Rect.unit (s := S3x128x512) ![j.val, 0, 0] S1x128x512.size hs).set]{fullShare}
        stgM.view.writes (Elt F) f [⟨Rect.unit (s := S3x128x512) ![j.val, 64, 0] S1x64x512.size h1, w1⟩,
          ⟨Rect.unit (s := S3x128x512) ![j.val, 0, 0] S1x64x512.size h0, w0⟩])
      ∗ ⌜w0 = packed (chunkC m c (destOf c j.castSucc 0))⌝ ∗ ⌜w1 = packed (chunkC m c (destOf c j.castSucc 1))⌝)
      ⊢ (staged m c j.castSucc : sProp 𝕄) := by
  rw [hst, rect_slot j hs, set_slot_stg hs, ← slotSet_eq j hs]
  iintro ⟨H, %h0, %h1⟩
  iapply (Entails.of_eq (pointsTo_congr fun i hi => slot_stored m c j f _ _ w0 w1 h0 h1 i hi))
  iexact H

/-- A landed slot, by its rectangle. -/
theorem landed_slot (j' : Fin 4) (j : Fin 3) (hs : ∀ a, (![j.val, 0, 0] : Fin 3 → ℕ) a + S1x128x512.size a ≤ S3x128x512.size a)
    (hld : landed m c j' = ((slotAt rcvM j.val hs).view.loc (c : Thread nD τ) ↦[(slotAt rcvM j.val hs).view.set]{fullShare} landedA m c : sProp 𝕄)) :
    (landed m c j' : sProp 𝕄)
      = (rcvM.view.loc (c : Thread nD τ) ↦[rcvM.view.setOn (Rect.unit (s := S3x128x512) ![j.val, 0, 0] S1x128x512.size hs).set]{fullShare} landedA m c) := by
  rw [hld, set_slot_rcv hs]
  exact congrArg (fun I : Finset S3x128x512.Idx => (rcvM.view.loc (c : Thread nD τ) ↦[I]{fullShare} landedA m c : sProp 𝕄)) Finset.map_refl.symm

/-- The last landing buffer, landed. -/
theorem landed_last : (landed m c 3 : sProp 𝕄) = (landM.view.loc (c : Thread nD τ) ↦{fullShare} landedB m c) := by
  unfold landed
  rw [View.set_whole]

/-- The last staging buffer, staged. -/
theorem staged_last : (staged m c 3 : sProp 𝕄) = (lastM.view.loc (c : Thread nD τ) ↦{fullShare} stagedB m c) := by
  unfold staged
  rw [View.set_whole]

/-- The second array, whole, once the group's sum over the mirror's chunk is stored, is what the transfer to the mirror lends. -/
theorem stage_last (f : (cc0_scratch5 : Ref sig .tc).ty.Contents (Elt F)) (w : Vec F S64x512 .bf16) :
    iprop((lastM.view.loc (c : Thread nD τ) ↦{fullShare}
        lastM.view.writes (Elt F) f [⟨Rect.unit (s := S64x512) ![0, 0] S64x512.size inb_S64x512_S64x512_0_0, w⟩]) ∗ ⌜w = stagedB m c⌝)
      ⊢ (staged m c 3 : sProp 𝕄) := by
  rw [staged_last]
  iintro ⟨H, %hw⟩
  iapply (Entails.of_eq (congrArg (fun f => (lastM.view.loc (c : Thread nD τ) ↦{fullShare} f : sProp 𝕄))
    ((View.read_writes_full lastM.view f inb_S64x512_S64x512_0_0 w []).trans hw)))
  iexact H

/-- The result's buffer once the device's block is stored. -/
theorem out_stored (f : (cc0_stg5_0 : Ref sig .tc).ty.Contents (Elt F)) (w : Vec F S64x512 .f32) :
    iprop(((Memref.whole cc0_stg5_0).view.loc (c : Thread nD τ) ↦{fullShare}
        (Memref.whole cc0_stg5_0).view.writes (Elt F) f [⟨Rect.unit (s := S64x512) ![0, 0] S64x512.size inb_S64x512_S64x512_0_0, w⟩]) ∗ ⌜w = outC m c⌝)
      ⊢ ((Memref.whole cc0_stg5_0).view.loc (c : Thread nD τ) ↦{fullShare} outC m c : sProp 𝕄) := by
  iintro ⟨H, %hw⟩
  iapply (Entails.of_eq (congrArg (fun f => ((Memref.whole cc0_stg5_0).view.loc (c : Thread nD τ) ↦{fullShare} f : sProp 𝕄))
    ((View.read_writes_full (Memref.whole cc0_stg5_0).view f inb_S64x512_S64x512_0_0 w []).trans hw)))
  iexact H

end Held

end Cert.Moe

end
-- ==== Proof.Body.lean ====
/-
# One device's run of the kernel

From its operands in the staging buffers, its semaphores' ghost state and its scratch buffers, device `c` runs the kernel
to its block of the result, every semaphore at zero again.
-/
module

public import proofs.«01_k».proof.Proof.Stores

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The ghost state of one device -/

/-- A device's own cells: its barrier, and for each peer the transfer's send (`false`) and receive (`true`) semaphore. -/
abbrev Cell : Type := Option (Bool × Fin 4)
/-- The semaphore behind a cell. -/
abbrev csem : Cell → SemLoc sig
  | none => .reg barS
  | some (false, j) => .dma (sendS j)
  | some (true, j) => .dma (recvS j)

variable (K : Dev nD × Cell → ℕ) (c : Dev nD)

/-- What the device knows and holds of the exchange with peer `j`: the four cells' invariants and first rounds, its
    positions at its own two, and the tokens of the three duties it pays. -/
def knows (j : Fin 4) : sProp 𝕄 :=
  iprop((cellInv ER (rd m) (K (peer c j, none)) (barCell (peer c j)) ∗ cellInv ER (rd m) (K (c, some (false, j))) (sendCell c j)
      ∗ cellInv ER (rd m) (K (c, some (true, j))) (recvCell c j) ∗ cellInv ER (rd m) (K (peer c j, some (true, j))) (recvCell (peer c j) j))
    ∗ (reached ER (barCell (peer c j)) 0 ∗ reached ER (sendCell c j) 0 ∗ reached ER (recvCell c j) 0 ∗ reached ER (recvCell (peer c j) j) 0))
/-- What the device owns of peer `j`'s transfers: its places at the two cells and the duties it pays. -/
def holds (j : Fin 4) : sProp 𝕄 :=
  iprop((atPos ER (sendCell c j) 0 ∅ 0 ∗ atPos ER (recvCell c j) 0 ∅ 0)
    ∗ (dutyTok ER (barCell (peer c j)) 0 (rev j) ∗ dutyTok ER (sendCell c j) 0 0 ∗ dutyTok ER (recvCell (peer c j) j) 0 0))

instance knows_persistent (j : Fin 4) : BI.Persistent (knows m K c j) := by unfold knows; infer_instance

/-- The protocol's share of one device: what it knows of its own barrier and its four peers, and what it owns. -/
def ghost : sProp 𝕄 :=
  iprop((cellInv ER (rd m) (K (c, none)) (barCell c) ∗ knows m K c 0 ∗ knows m K c 1 ∗ knows m K c 2 ∗ knows m K c 3)
    ∗ atPos ER (barCell c) 0 ∅ 0 ∗ holds c 0 ∗ holds c 1 ∗ holds c 2 ∗ holds c 3)

/-- The credit for what the others owe the device: four units at its barrier, and each transfer's. -/
def credits : sProp 𝕄 :=
  iprop(cred (tallyAt (barCell c) () 4) ∗ landCred c 0 ∗ landCred c 1 ∗ landCred c 2 ∗ landCred c 3)

/-- What a device starts its body with, beside its buffers. -/
def start : sProp 𝕄 := iprop((∃ K, ghost m K c) ∗ credits c ∗ levAts L lv)

/-- A buffer of the device, whole, at some contents. -/
abbrev some' (b : Ref sig .tc) : sProp 𝕄 := iprop(∃ f : Buf (Elt F) ((Memref.whole b).view.loc (c : Thread nD τ)), (Memref.whole b).view.loc (c : Thread nD τ) ↦{fullShare} f)

/-- The seven scratch buffers, at any contents. -/
def scratch : sProp 𝕄 :=
  iprop(some' c cc0_scratch0 ∗ some' c cc0_scratch1 ∗ some' c cc0_scratch2 ∗ some' c cc0_scratch3 ∗ some' c cc0_scratch4 ∗ some' c cc0_scratch5 ∗ some' c cc0_scratch6)

/-- The device's nine semaphores at zero, no round open. -/
def closed : sProp 𝕄 :=
  iprop(semVal (barCell c) 0 ∗ (semVal (sendCell c 0) 0 ∗ semVal (sendCell c 1) 0 ∗ semVal (sendCell c 2) 0 ∗ semVal (sendCell c 3) 0)
    ∗ (semVal (recvCell c 0) 0 ∗ semVal (recvCell c 1) 0 ∗ semVal (recvCell c 2) 0 ∗ semVal (recvCell c 3) 0))

/-- The launch's data: the operands in, the block of the result out, what a device has before and after its body, what it owes. -/
def dats (_ : Fin 1) (c : Dev nD) : Dat τ (Elt F) Unit ℕ UU ℕ cfg0 c where
  A w := m ((cfg0.win w).arr.view.loc (c : Thread nD τ))
  after w _ := match w with
    | ⟨0, _⟩ => xC m c
    | ⟨1, _⟩ => rwC m c
    | ⟨2, _⟩ => idxC m c
    | ⟨3, _⟩ => ewC m c
    | ⟨4, _⟩ => swC m c
    | ⟨5, _⟩ => outC m c
  Φ t := match t with
    | ⟨0, _⟩ => iprop(start m c ∗ scratch c)
    | ⟨_ + 1, _⟩ => iprop(closed c ∗ scratch c)
  q _ := fullShare
  owed t := match t with
    | ⟨0, _⟩ => O₀ c
    | ⟨_ + 1, _⟩ => 0

/-! ## Slots of the two arrays -/

/-- The staging array is its three slots. -/
theorem split_stg (f : Buf (Elt F) (stgM.view.loc (c : Thread nD τ))) :
    ((stgM.view.loc (c : Thread nD τ)) ↦{fullShare} f : sProp 𝕄)
      = iprop(((stgM.view.loc (c : Thread nD τ)) ↦[slotSet 0]{fullShare} f) ∗ ((stgM.view.loc (c : Thread nD τ)) ↦[slotSet 1]{fullShare} f)
          ∗ ((stgM.view.loc (c : Thread nD τ)) ↦[slotSet 2]{fullShare} f)) := by
  rw [Ring.pointsTo_blocks (B := Fin 3) slotSet slot_disjoint slot_cover f,
    bigSep_univ_eq_bigSepL [0, 1, 2] (by decide) (by decide)]
  simp only [bigSepL_cons_cons, bigSepL_singleton]; rfl

/-- The landing array is its three slots. -/
theorem split_rcv (f : Buf (Elt F) ((c : Thread nD τ).loc cc0_scratch4)) :
    (((c : Thread nD τ).loc cc0_scratch4) ↦{fullShare} f : sProp 𝕄)
      = iprop((((c : Thread nD τ).loc cc0_scratch4) ↦[slotSet 0]{fullShare} f) ∗ (((c : Thread nD τ).loc cc0_scratch4) ↦[slotSet 1]{fullShare} f)
          ∗ (((c : Thread nD τ).loc cc0_scratch4) ↦[slotSet 2]{fullShare} f)) := by
  rw [Ring.pointsTo_blocks (B := Fin 3) slotSet slot_disjoint slot_cover f,
    bigSep_univ_eq_bigSepL [0, 1, 2] (by decide) (by decide)]
  simp only [bigSepL_cons_cons, bigSepL_singleton]; rfl

/-- Three disjoint parts that cover a buffer are the buffer, at some contents. -/
theorem join_slots (b : Ref sig .tc) (I : Fin 3 → Finset (Idx ((c : Thread nD τ).loc b))) (hd : ∀ j j', j ≠ j' → Disjoint (I j) (I j'))
    (hc : Finset.univ.biUnion I = Finset.univ) (f₀ f₁ f₂ : Buf (Elt F) ((c : Thread nD τ).loc b)) :
    iprop((((c : Thread nD τ).loc b) ↦[I 0]{fullShare} f₀) ∗ (((c : Thread nD τ).loc b) ↦[I 1]{fullShare} f₁)
          ∗ (((c : Thread nD τ).loc b) ↦[I 2]{fullShare} f₂)) ⊢ (some' c b : sProp 𝕄) := by
  refine BI.Entails.trans ?_ (Ring.pointsTo_blocks_join I hd hc ![f₀, f₁, f₂] f₀)
  rw [bigSep_univ_eq_bigSepL [0, 1, 2] (by decide) (by decide)]
  simp only [bigSepL_cons_cons, bigSepL_singleton]
  exact BI.Entails.refl _

/-- The staging array, whole again once its three transfers have left, and the landing array once they have landed. -/
theorem join_stg : iprop(staged m c 0 ∗ staged m c 1 ∗ staged m c 2) ⊢ (some' c cc0_scratch3 : sProp 𝕄) := by
  have h := join_slots c cc0_scratch3 slotSet slot_disjoint slot_cover (stagedA m c) (stagedA m c) (stagedA m c)
  rw [slotSet_eq 0 inb_S3x128x512_S1x128x512_0_0_0, slotSet_eq 1 inb_S3x128x512_S1x128x512_1_0_0, slotSet_eq 2 inb_S3x128x512_S1x128x512_2_0_0,
    ← set_slot_stg, ← set_slot_stg, ← set_slot_stg] at h
  exact h

/-- The landing array is whole again once its three slots have landed. -/
theorem join_rcv : iprop(landed m c 0 ∗ landed m c 1 ∗ landed m c 2) ⊢ (some' c cc0_scratch4 : sProp 𝕄) := by
  have h := join_slots c cc0_scratch4 slotSet slot_disjoint slot_cover (landedA m c) (landedA m c) (landedA m c)
  rw [slotSet_eq 0 inb_S3x128x512_S1x128x512_0_0_0, slotSet_eq 1 inb_S3x128x512_S1x128x512_1_0_0, slotSet_eq 2 inb_S3x128x512_S1x128x512_2_0_0,
    ← set_slot_rcv, ← set_slot_rcv, ← set_slot_rcv] at h
  exact h

/-- A slot of the landing array, at any contents, is what the barrier's signal hands to the peer that writes into it. -/
theorem land_slot (j : Fin 3) (f : Buf (Elt F) ((c : Thread nD τ).loc cc0_scratch4)) :
    (((c : Thread nD τ).loc cc0_scratch4) ↦[slotSet j]{fullShare} f : sProp 𝕄) ⊢ landing c j.castSucc := by
  match j with
  | 0 => show _ ⊢ landing c 0; unfold landing; rw [slotSet_eq 0 inb_S3x128x512_S1x128x512_0_0_0, ← set_slot_rcv]; iintro H; iexists f; iexact H
  | 1 => show _ ⊢ landing c 1; unfold landing; rw [slotSet_eq 1 inb_S3x128x512_S1x128x512_1_0_0, ← set_slot_rcv]; iintro H; iexists f; iexact H
  | 2 => show _ ⊢ landing c 2; unfold landing; rw [slotSet_eq 2 inb_S3x128x512_S1x128x512_2_0_0, ← set_slot_rcv]; iintro H; iexists f; iexact H

/-- So is the last landing buffer. -/
theorem land_last (f : Buf (Elt F) ((c : Thread nD τ).loc cc0_scratch6)) :
    (((c : Thread nD τ).loc cc0_scratch6) ↦{fullShare} f : sProp 𝕄) ⊢ landing c 3 := by
  unfold landing; rw [View.set_whole]; iintro H; iexists f; iexact H

/-- Peer `j`'s two cells close: their counters at zero are the device's again. -/
theorem close_peer (j : Fin 4) (κ₁ κ₂ : ℕ) :
    iprop(cellInv ER (rd m) κ₁ (sendCell c j) ∗ cellInv ER (rd m) κ₂ (recvCell c j) ∗ atPos ER (sendCell c j) 1 ∅ 0 ∗ atPos ER (recvCell c j) 1 ∅ 0)
      ⊢ (iprop(|={Set.univ}=> (semVal (sendCell c j) 0 ∗ semVal (recvCell c j) 0)) : sProp 𝕄) := by
  iintro ⟨#H1, #H2, As, Ar⟩
  imod (Rounds.cell_close ER (rd m) (Set.mem_univ κ₁) (fun h => h) (R := 0 + 1) (duties_later m (sendCell c j))) $$ [As] with Hs
  · isplitr; · iexact H1
    iexact As
  imod (Rounds.cell_close ER (rd m) (Set.mem_univ κ₂) (fun h => h) (R := 0 + 1) (duties_later m (recvCell c j))) $$ [Ar] with Hr
  · isplitr; · iexact H2
    iexact Ar
  imodintro
  isplitl [Hs]; · iexact Hs
  iexact Hr

/-! ## The run -/

/-- A staging buffer at the contents `X`. -/
abbrev stg (b : Ref sig .tc) (X : b.ty.Contents (Elt F)) : sProp 𝕄 :=
  iprop(∃ f : Buf (Elt F) ((Memref.whole b).view.loc (c : Thread nD τ)), ⌜f = X⌝ ∗ ((Memref.whole b).view.loc (c : Thread nD τ) ↦{fullShare} f))

/-- The grid's one step. -/
abbrev t₀ : Fin cfg0.N := t0_0

/-- What the body starts from. -/
def bodyPre : sProp 𝕄 :=
  iprop((ghost m K c ∗ credits c ∗ levAts L lv ∗ scratch c)
    ∗ (dats m 0 c).owesAt () t₀.castSucc
    ∗ (∃ d, stg c cc0_stg0_0 ((dats m 0 c).before (0 : Fin 6) t₀ d)) ∗ (∃ d, stg c cc0_stg1_0 ((dats m 0 c).before (1 : Fin 6) t₀ d))
    ∗ (∃ d, stg c cc0_stg2_0 ((dats m 0 c).before (2 : Fin 6) t₀ d)) ∗ (∃ d, stg c cc0_stg3_0 ((dats m 0 c).before (3 : Fin 6) t₀ d))
    ∗ (∃ d, stg c cc0_stg4_0 ((dats m 0 c).before (4 : Fin 6) t₀ d)) ∗ (∃ d, stg c cc0_stg5_0 ((dats m 0 c).before (5 : Fin 6) t₀ d)))

/-- What the body ends with: every semaphore at zero, the operands as they were, the device's block of the result. -/
def bodyPost : sProp 𝕄 :=
  iprop((closed c ∗ scratch c) ∗ (dats m 0 c).owesAt () t₀.succ
    ∗ stg c cc0_stg0_0 (xC m c) ∗ stg c cc0_stg1_0 (rwC m c) ∗ stg c cc0_stg2_0 (idxC m c) ∗ stg c cc0_stg3_0 (ewC m c)
    ∗ stg c cc0_stg4_0 (swC m c) ∗ stg c cc0_stg5_0 (outC m c))

/-- The kernel's body on its staging buffers. -/
abbrev body : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10

set_option maxHeartbeats 2000000 in
/-- The body of the kernel, on any device, goes from the one to the other. -/
theorem sound_body (Kt : PUnit → sProp 𝕄) :
    iprop(bodyPre m K c ∗ (bodyPost m c -∗ Kt ⟨⟩))
      ⊢ wp frame (wpE (defs₀ (F := F)) 𝒱₀ c none) Set.univ (body (F := F)) Kt := by
  unfold body
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton]
  unfold bodyPre ghost credits scratch Dat.owesAt Pipeline.owesWithin
  rw [show (dats m 0 c).owed t₀.castSucc = O₀ c from rfl]
  unfold O₀
  iintro ⟨⟨⟨⟨⟨#HIb, #Hk0, #Hk1, #Hk2, #Hk3⟩, HatB, Hh0, Hh1, Hh2, Hh3⟩, ⟨HcB, HcV0, HcV1, HcV2, HcV3⟩, #Hlev, Hg, Hw, Hs, Hst, ⟨%fr, Hrc⟩, Hls, ⟨%fl, Hld⟩⟩,
    Ho, ⟨%d0, %g0, %hg0, Hx⟩, ⟨%d1, %g1, %hg1, Hrw⟩, ⟨%d2, %g2, %hg2, Hix⟩, ⟨%d3, %g3, %hg3, Hew⟩, ⟨%d4, %g4, %hg4, Hsw⟩, ⟨%d5, %g5, %hg5, Hout⟩⟩, Hk⟩
  icases Ho with ⟨%W, %hW, HO⟩
  unfold knows holds
  icases Hk0 with ⟨⟨#Ib0, #Is0, #Ir0, #Iq0⟩, #Rb0, #Rs0, #Rr0, #Rq0⟩
  icases Hk1 with ⟨⟨#Ib1, #Is1, #Ir1, #Iq1⟩, #Rb1, #Rs1, #Rr1, #Rq1⟩
  icases Hk2 with ⟨⟨#Ib2, #Is2, #Ir2, #Iq2⟩, #Rb2, #Rs2, #Rr2, #Rq2⟩
  icases Hk3 with ⟨⟨#Ib3, #Is3, #Ir3, #Iq3⟩, #Rb3, #Rs3, #Rr3, #Rq3⟩
  icases Hh0 with ⟨⟨As0, Ar0⟩, Tb0, Ts0, Tr0⟩
  icases Hh1 with ⟨⟨As1, Ar1⟩, Tb1, Ts1, Tr1⟩
  icases Hh2 with ⟨⟨As2, Ar2⟩, Tb2, Ts2, Tr2⟩
  icases Hh3 with ⟨⟨As3, Ar3⟩, Tb3, Ts3, Tr3⟩
  ihave Hrc := (Entails.of_eq (split_rcv c fr)) $$ Hrc
  icases Hrc with ⟨Hrc0, Hrc1, Hrc2⟩
  have hx : g0 = xC m c := by rw [hg0]; unfold Dat.before; rw [if_pos (fetch0_0 t₀)]; rfl
  have hrw : g1 = rwC m c := by rw [hg1]; unfold Dat.before; rw [if_pos (fetch0_1 t₀)]; rfl
  have hix : g2 = idxC m c := by rw [hg2]; unfold Dat.before; rw [if_pos (fetch0_2 t₀)]; rfl
  have hew : g3 = ewC m c := by rw [hg3]; unfold Dat.before; rw [if_pos (fetch0_3 t₀)]; rfl
  have hsw : g4 = swC m c := by rw [hg4]; unfold Dat.before; rw [if_pos (fetch0_4 t₀)]; rfl
  clear hg0 hg1 hg2 hg3 hg4 hg5
  subst hx hrw hix hew hsw
  -- the four signals
  sl_exec
  iapply (signal_peer 0 _ (dev1_eq c) _ _ _) $$ [HO Tb0 Hrc2]
  · isplitr; · iexact Ib0
    isplitl [HO]; · iexact HO
    isplitl [Tb0]; · iexact Tb0
    isplitl [Hrc2]; · iapply (land_slot c 2 _); iexact Hrc2
    isplitr; · iexact Rr2
    iexact Rb0
  iintro HO
  sl_exec
  iapply (signal_peer 1 _ (dev2_eq c) _ _ _) $$ [HO Tb1 Hrc1]
  · isplitr; · iexact Ib1
    isplitl [HO]; · iexact HO
    isplitl [Tb1]; · iexact Tb1
    isplitl [Hrc1]; · iapply (land_slot c 1 _); iexact Hrc1
    isplitr; · iexact Rr1
    iexact Rb1
  iintro HO
  sl_exec
  iapply (signal_peer 2 _ (dev3_eq c) _ _ _) $$ [HO Tb2 Hrc0]
  · isplitr; · iexact Ib2
    isplitl [HO]; · iexact HO
    isplitl [Tb2]; · iexact Tb2
    isplitl [Hrc0]; · iapply (land_slot c 0 _); iexact Hrc0
    isplitr; · iexact Rr0
    iexact Rb2
  iintro HO
  sl_exec
  iapply (signal_peer 3 _ (dev4_eq c) _ _ _) $$ [HO Tb3 Hld]
  · isplitr; · iexact Ib3
    isplitl [HO]; · iexact HO
    isplitl [Tb3]; · iexact Tb3
    isplitl [Hld]; · iapply (land_last c _); iexact Hld
    isplitr; · iexact Rr3
    iexact Rb3
  iintro HO
  sl_exec
  iapply (wait_bar _ _) $$ [HcB HO HatB]
  · isplitr; · iexact HIb
    isplitl [HcB]; · iexact HcB
    isplitl [HO]; · iexact HO
    isplitr; · iexact Hlev
    iexact HatB
  iintro ⟨⟨%W1, HO⟩, HatB, Hl0, Hl1, Hl2, Hl3⟩
  icases Hst with ⟨%ft, Hst⟩
  ihave Hst := (Entails.of_eq (split_stg c ft)) $$ Hst
  rw [← rect_slot 0 inb_S3x128x512_S1x128x512_0_0_0, ← rect_slot 1 inb_S3x128x512_S1x128x512_1_0_0, ← rect_slot 2 inb_S3x128x512_S1x128x512_2_0_0]
  icases Hst with ⟨Hst0, Hst1, Hst2⟩
  icases Hg with ⟨%fg, Hg⟩
  icases Hw with ⟨%fw, Hw⟩
  icases Hls with ⟨%fls, Hls⟩
  have wx : ∀ o inb, (Memref.whole cc0_stg0_0).view.readAt (Elt F) (Rect.unit (s := S512x256) o S512x256.size inb).toLoadRect (xC m c) = xC m c :=
    fun o inb => load_all cc0_stg0_0 (xC m c) o inb
  have wr : ∀ o inb, (Memref.whole cc0_stg1_0).view.readAt (Elt F) (Rect.unit (s := S256x32) o S256x32.size inb).toLoadRect (rwC m c) = rwC m c :=
    fun o inb => load_all cc0_stg1_0 (rwC m c) o inb
  have wi : ∀ o inb, (Memref.whole cc0_stg2_0).view.readAt (Elt F) (Rect.unit (s := S512x1) o S512x1.size inb).toLoadRect (idxC m c) = idxC m c :=
    fun o inb => load_all cc0_stg2_0 (idxC m c) o inb
  have we : ∀ o inb, (Memref.whole cc0_stg3_0).view.readAt (Elt F) (Rect.unit (s := S4x256x512) o S1x256x512.size inb).toLoadRect (ewC m c)
      = window (s := S4x256x512) (ewC m c) o S1x256x512.size inb := fun o inb => load_whole cc0_stg3_0 (ewC m c) o S1x256x512.size inb
  have ws : ∀ o inb, (Memref.whole cc0_stg4_0).view.readAt (Elt F) (Rect.unit (s := S256x512) o S256x512.size inb).toLoadRect (swC m c) = swC m c :=
    fun o inb => load_all cc0_stg4_0 (swC m c) o inb
  sl_exec
  ihave Hg := (Entails.of_eq (congrArg (fun f => ((Memref.whole cc0_scratch0).view.loc (c : Thread nD τ) ↦{fullShare} f : sProp 𝕄)) (gate_stored m c _ (k0_pay2 (sound_body.sl.r m c)) rfl))) $$ Hg
  ihave Hw := (Entails.of_eq (congrArg (fun f => ((Memref.whole cc0_scratch1).view.loc (c : Thread nD τ) ↦{fullShare} f : sProp 𝕄))
    (planes_stored m c _))) $$ Hw
  icases Hs with ⟨%fs, Hs⟩
  have lx : ∀ o inb, (Memref.whole cc0_stg0_0).view.readAt (Elt F) (Rect.unit (s := S512x256) o S64x256.size inb).toLoadRect (xC m c)
      = window (s := S512x256) (xC m c) o S64x256.size inb := fun o inb => load_whole cc0_stg0_0 (xC m c) o S64x256.size inb
  have li : ∀ o inb, (Memref.whole cc0_stg2_0).view.readAt (Elt F) (Rect.unit (s := S512x1) o S64x1.size inb).toLoadRect (idxC m c)
      = window (s := S512x1) (idxC m c) o S64x1.size inb := fun o inb => load_whole cc0_stg2_0 (idxC m c) o S64x1.size inb
  have lg : ∀ o inb, (Memref.whole cc0_scratch0).view.readAt (Elt F) (Rect.unit (s := S512x1) o S64x1.size inb).toLoadRect (gateC m c)
      = window (s := S512x1) (gateC m c) o S64x1.size inb := fun o inb => load_whole cc0_scratch0 (gateC m c) o S64x1.size inb
  have l0 := load_plane m c 0 inb_S4x256x512_S1x256x512_0_0_0
  have l1 := load_plane m c 1 inb_S4x256x512_S1x256x512_1_0_0
  have l2 := load_plane m c 2 inb_S4x256x512_S1x256x512_2_0_0
  have l3 := load_plane m c 3 inb_S4x256x512_S1x256x512_3_0_0
  set_option sl_exec.closedLoads true in
  sl_exec
  unfold owedA
  ihave Hst0 := (stage_slot (m := m) (c := c) 0 ft inb_S3x128x512_S1x128x512_0_0_0 inb_S3x128x512_S1x64x512_0_0_0 inb_S3x128x512_S1x64x512_0_64_0 _ _ rfl) $$ [Hst0]
  · isplitl [Hst0]; · iexact Hst0
    isplitr
    · ipureintro; rfl
    · ipureintro; rfl
  iapply (send_mate 0 _ (dev5_eq c) inb_S3x128x512_S1x128x512_0_0_0 rfl rfl rfl rfl rfl _ _ _ _) $$ [Hst0 Hl0 HO Ts0 Tr0]
  · isplitr; · iexact Is0
    isplitr; · iexact Iq0
    isplitl [Hst0]; · iexact Hst0
    isplitl [Hl0]; · iexact Hl0
    isplitl [HO]; · iexact HO
    isplitl [Ts0]; · iexact Ts0
    isplitr; · iexact Rs0
    isplitl [Tr0]; · iexact Tr0
    iexact Rq0
  iintro ⟨Hc0, HO⟩
  ihave Hs := (Entails.of_eq (congrArg (fun f => ((Memref.whole cc0_scratch2).view.loc (c : Thread nD τ) ↦{fullShare} f : sProp 𝕄)) (shared_stored m c fs))) $$ Hs
  have lsw := load_all cc0_scratch2 (k0_pay7 (swC m c)) ![0, 0] inb_S256x512_S256x512_0_0
  set_option sl_exec.closedLoads true in
  sl_exec
  ihave Hst1 := (stage_slot (m := m) (c := c) 1 ft inb_S3x128x512_S1x128x512_1_0_0 inb_S3x128x512_S1x64x512_1_0_0 inb_S3x128x512_S1x64x512_1_64_0 _ _ rfl) $$ [Hst1]
  · isplitl [Hst1]; · iexact Hst1
    isplitr
    · ipureintro; rfl
    · ipureintro; rfl
  iapply (send_mate 1 _ (dev6_eq c) inb_S3x128x512_S1x128x512_1_0_0 rfl rfl rfl rfl rfl _ _ _ _) $$ [Hst1 Hl1 HO Ts1 Tr1]
  · isplitr; · iexact Is1
    isplitr; · iexact Iq1
    isplitl [Hst1]; · iexact Hst1
    isplitl [Hl1]; · iexact Hl1
    isplitl [HO]; · iexact HO
    isplitl [Ts1]; · iexact Ts1
    isplitr; · iexact Rs1
    isplitl [Tr1]; · iexact Tr1
    iexact Rq1
  iintro ⟨Hc1, HO⟩
  set_option sl_exec.closedLoads true in
  sl_exec
  ihave Hst2 := (stage_slot (m := m) (c := c) 2 ft inb_S3x128x512_S1x128x512_2_0_0 inb_S3x128x512_S1x64x512_2_0_0 inb_S3x128x512_S1x64x512_2_64_0 _ _ rfl) $$ [Hst2]
  · isplitl [Hst2]; · iexact Hst2
    isplitr
    · ipureintro; rfl
    · ipureintro; rfl
  iapply (send_mate 2 _ (dev7_eq c) inb_S3x128x512_S1x128x512_2_0_0 rfl rfl rfl rfl rfl _ _ _ _) $$ [Hst2 Hl2 HO Ts2 Tr2]
  · isplitr; · iexact Is2
    isplitr; · iexact Iq2
    isplitl [Hst2]; · iexact Hst2
    isplitl [Hl2]; · iexact Hl2
    isplitl [HO]; · iexact HO
    isplitl [Ts2]; · iexact Ts2
    isplitr; · iexact Rs2
    isplitl [Tr2]; · iexact Tr2
    iexact Rq2
  iintro ⟨Hc2, HO⟩
  set_option sl_exec.closedLoads true in
  sl_exec
  iapply (wait_recv 0 _ (src := slotAt stgM 0 inb_S3x128x512_S1x128x512_0_0_0) (dst := slotAt rcvM 0 inb_S3x128x512_S1x128x512_0_0_0) rfl _ _) $$ [HcV0 HO Ar0]
  · isplitr; · iexact Ir0
    isplitl [HcV0]; · iexact HcV0
    isplitl [HO]; · iexact HO
    isplitr; · iapply (mayWait_mate c 0 (by decide)); iexact Hlev
    iexact Ar0
  iintro ⟨⟨%W2, HO⟩, Ar0, Hv0⟩
  ihave Hv0 := (Entails.of_eq (landed_slot (m := m) (c := c) 0 0 inb_S3x128x512_S1x128x512_0_0_0 rfl)) $$ Hv0
  have v00 := landed_half m c 0 0 inb_S3x128x512_S1x64x512_0_0_0
  have v01 := landed_half m c 0 1 inb_S3x128x512_S1x64x512_0_64_0
  sl_exec
  iapply (wait_recv 1 _ (src := slotAt stgM 1 inb_S3x128x512_S1x128x512_1_0_0) (dst := slotAt rcvM 1 inb_S3x128x512_S1x128x512_1_0_0) rfl _ _) $$ [HcV1 HO Ar1]
  · isplitr; · iexact Ir1
    isplitl [HcV1]; · iexact HcV1
    isplitl [HO]; · iexact HO
    isplitr; · iapply (mayWait_mate c 1 (by decide)); iexact Hlev
    iexact Ar1
  iintro ⟨⟨%W3, HO⟩, Ar1, Hv1⟩
  ihave Hv1 := (Entails.of_eq (landed_slot (m := m) (c := c) 1 1 inb_S3x128x512_S1x128x512_1_0_0 rfl)) $$ Hv1
  have v10 := landed_half m c 1 0 inb_S3x128x512_S1x64x512_1_0_0
  have v11 := landed_half m c 1 1 inb_S3x128x512_S1x64x512_1_64_0
  sl_exec
  iapply (wait_recv 2 _ (src := slotAt stgM 2 inb_S3x128x512_S1x128x512_2_0_0) (dst := slotAt rcvM 2 inb_S3x128x512_S1x128x512_2_0_0) rfl _ _) $$ [HcV2 HO Ar2]
  · isplitr; · iexact Ir2
    isplitl [HcV2]; · iexact HcV2
    isplitl [HO]; · iexact HO
    isplitr; · iapply (mayWait_mate c 2 (by decide)); iexact Hlev
    iexact Ar2
  iintro ⟨⟨%W4, HO⟩, Ar2, Hv2⟩
  ihave Hv2 := (Entails.of_eq (landed_slot (m := m) (c := c) 2 2 inb_S3x128x512_S1x128x512_2_0_0 rfl)) $$ Hv2
  have v20 := landed_half m c 2 0 inb_S3x128x512_S1x64x512_2_0_0
  have v21 := landed_half m c 2 1 inb_S3x128x512_S1x64x512_2_64_0
  sl_exec
  -- the group's sum over the mirror's chunk goes to the mirror, and its own comes back
  ihave Hst3 := (stage_last (m := m) (c := c) fls _) $$ [Hls]
  · isplitl [Hls]; · iexact Hls
    ipureintro; rfl
  iapply (send_mirror _ (dev8_eq c) _ _ _) $$ [Hst3 Hl3 HO Ts3 Tr3]
  · isplitr; · iexact Is3
    isplitr; · iexact Iq3
    isplitl [Hst3]; · iexact Hst3
    isplitl [Hl3]; · iexact Hl3
    isplitl [HO]; · iexact HO
    isplitl [Ts3]; · iexact Ts3
    isplitr; · iexact Rs3
    isplitl [Tr3]; · iexact Tr3
    iexact Rq3
  iintro ⟨Hc3, HO⟩
  rw [Prog.bind_lift]
  iapply (wait_recv 3 _ (src := lastM) (dst := landM) rfl _ _) $$ [HcV3 HO Ar3]
  · isplitr; · iexact Ir3
    isplitl [HcV3]; · iexact HcV3
    isplitl [HO]; · iexact HO
    isplitr; · rw [MayWait_zero]; iempintro
    iexact Ar3
  iintro ⟨⟨%W5, HO⟩, Ar3, Hv3⟩
  ihave Hv3 := (Entails.of_eq (landed_last (m := m) (c := c))) $$ Hv3
  have v3 := load_all cc0_scratch6 (landedB m c) ![0, 0] inb_S64x512_S64x512_0_0
  sl_exec
  ihave Hout := (out_stored (m := m) (c := c) g5 _) $$ [Hout]
  · isplitl [Hout]; · iexact Hout
    ipureintro; rfl
  -- its own transfers have left
  iapply (wait_send 0 _ (src := slotAt rcvM 0 inb_S3x128x512_S1x128x512_0_0_0) (dst := slotAt stgM 0 inb_S3x128x512_S1x128x512_0_0_0) rfl _) $$ [Hc0 HO As0]
  · isplitr; · iexact Is0
    isplitl [Hc0]; · iexact Hc0
    isplitl [HO]; · iexact HO
    iexact As0
  iintro ⟨⟨%W6, HO⟩, As0, Hst0⟩
  sl_exec
  iapply (wait_send 1 _ (src := slotAt rcvM 1 inb_S3x128x512_S1x128x512_1_0_0) (dst := slotAt stgM 1 inb_S3x128x512_S1x128x512_1_0_0) rfl _) $$ [Hc1 HO As1]
  · isplitr; · iexact Is1
    isplitl [Hc1]; · iexact Hc1
    isplitl [HO]; · iexact HO
    iexact As1
  iintro ⟨⟨%W7, HO⟩, As1, Hst1⟩
  rw [Prog.bind_lift]
  iapply (wait_send 2 _ (src := slotAt rcvM 2 inb_S3x128x512_S1x128x512_2_0_0) (dst := slotAt stgM 2 inb_S3x128x512_S1x128x512_2_0_0) rfl _) $$ [Hc2 HO As2]
  · isplitr; · iexact Is2
    isplitl [Hc2]; · iexact Hc2
    isplitl [HO]; · iexact HO
    iexact As2
  iintro ⟨⟨%W8, HO⟩, As2, Hst2⟩
  rw [Prog.bind_lift]
  iapply (wait_send 3 _ (src := landM) (dst := lastM) rfl _) $$ [Hc3 HO As3]
  · isplitr; · iexact Is3
    isplitl [Hc3]; · iexact Hc3
    isplitl [HO]; · iexact HO
    iexact As3
  iintro ⟨⟨%W9, HO⟩, As3, Hst3⟩
  -- its nine cells close
  imod (close_peer m c 0 _ _) $$ [As0 Ar0] with Hz0
  · isplitr; · iexact Is0
    isplitr; · iexact Ir0
    isplitl [As0]; · iexact As0
    iexact Ar0
  imod (close_peer m c 1 _ _) $$ [As1 Ar1] with Hz1
  · isplitr; · iexact Is1
    isplitr; · iexact Ir1
    isplitl [As1]; · iexact As1
    iexact Ar1
  imod (close_peer m c 2 _ _) $$ [As2 Ar2] with Hz2
  · isplitr; · iexact Is2
    isplitr; · iexact Ir2
    isplitl [As2]; · iexact As2
    iexact Ar2
  imod (close_peer m c 3 _ _) $$ [As3 Ar3] with Hz3
  · isplitr; · iexact Is3
    isplitr; · iexact Ir3
    isplitl [As3]; · iexact As3
    iexact Ar3
  imod (Rounds.cell_close ER (rd m) (Set.mem_univ _) (fun h => h) (R := 0 + 1) (duties_later m (barCell c))) $$ [HatB] with HzB
  · isplitr; · iexact HIb
    iexact HatB
  icases Hz0 with ⟨Zs0, Zr0⟩
  icases Hz1 with ⟨Zs1, Zr1⟩
  icases Hz2 with ⟨Zs2, Zr2⟩
  icases Hz3 with ⟨Zs3, Zr3⟩
  ihave Hst := (join_stg m c) $$ [Hst0 Hst1 Hst2]
  · isplitl [Hst0]; · iexact Hst0
    isplitl [Hst1]; · iexact Hst1
    iexact Hst2
  ihave Hv0 := (Entails.of_eq (landed_slot (m := m) (c := c) 0 0 inb_S3x128x512_S1x128x512_0_0_0 rfl).symm) $$ Hv0
  ihave Hv1 := (Entails.of_eq (landed_slot (m := m) (c := c) 1 1 inb_S3x128x512_S1x128x512_1_0_0 rfl).symm) $$ Hv1
  ihave Hv2 := (Entails.of_eq (landed_slot (m := m) (c := c) 2 2 inb_S3x128x512_S1x128x512_2_0_0 rfl).symm) $$ Hv2
  ihave Hrc := (join_rcv m c) $$ [Hv0 Hv1 Hv2]
  · isplitl [Hv0]; · iexact Hv0
    isplitl [Hv1]; · iexact Hv1
    iexact Hv2
  ihave Hls := (Entails.of_eq (staged_last (m := m) (c := c))) $$ Hst3
  rw [Prog.pure_eq_ret, wp_ret]; imodintro
  iapply Hk
  unfold bodyPost closed scratch Dat.owesAt Pipeline.owesWithin
  rw [show (dats m 0 c).owed t₀.succ = 0 from rfl]
  isplitl [HzB Zs0 Zs1 Zs2 Zs3 Zr0 Zr1 Zr2 Zr3 Hg Hw Hs Hst Hrc Hls Hv3]
  · isplitl [HzB Zs0 Zs1 Zs2 Zs3 Zr0 Zr1 Zr2 Zr3]
    · isplitl [HzB]; · iexact HzB
      isplitl [Zs0 Zs1 Zs2 Zs3]
      · isplitl [Zs0]; · iexact Zs0
        isplitl [Zs1]; · iexact Zs1
        isplitl [Zs2]; · iexact Zs2
        iexact Zs3
      · isplitl [Zr0]; · iexact Zr0
        isplitl [Zr1]; · iexact Zr1
        isplitl [Zr2]; · iexact Zr2
        iexact Zr3
    · isplitl [Hg]; · iexists _; iexact Hg
      isplitl [Hw]; · iexists _; iexact Hw
      isplitl [Hs]; · iexists _; iexact Hs
      isplitl [Hst]; · iexact Hst
      isplitl [Hrc]; · iexact Hrc
      isplitl [Hls]; · iexists _; iexact Hls
      iexists _; iexact Hv3
  isplitl [HO]
  · iexists W9
    isplitr; · ipureintro; exact fun _ _ => Or.inl trivial
    iexact HO
  isplitl [Hx]; · iexists _; isplitr; · (ipureintro; rfl)
                  iexact Hx
  isplitl [Hrw]; · iexists _; isplitr; · (ipureintro; rfl)
                   iexact Hrw
  isplitl [Hix]; · iexists _; isplitr; · (ipureintro; rfl)
                   iexact Hix
  isplitl [Hew]; · iexists _; isplitr; · (ipureintro; rfl)
                   iexact Hew
  isplitl [Hsw]; · iexists _; isplitr; · (ipureintro; rfl)
                   iexact Hsw
  iexists _; isplitr; · (ipureintro; rfl)
  iexact Hout

end Cert.Moe

end
-- ==== Proof.Launch.lean ====
/-
# The launch

The nine semaphores of every device get their invariants at once, every device is dealt what it starts from, and the
kernel runs on all eight devices to the end: each device's result array at its block, its operands unchanged and every
semaphore at zero.
-/
module

public import proofs.«01_k».proof.Proof.Body
public import Idealize.ShloMosaic.Lib.Pipeline.CollectiveSegs

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the launch asks for it -/

section Obligation
variable (c : Dev nD)

/-- What the launch hands the body, with the step's bookkeeping still in it. -/
def bodyPre' : sProp 𝕄 :=
  iprop((start m c ∗ scratch c) ∗ (dats m 0 c).owesAt () t₀.castSucc
    ∗ (∃ d, stg c cc0_stg0_0 ((dats m 0 c).before (0 : Fin 6) t₀ d)) ∗ (∃ d, stg c cc0_stg1_0 ((dats m 0 c).before (1 : Fin 6) t₀ d))
    ∗ (∃ d, stg c cc0_stg2_0 ((dats m 0 c).before (2 : Fin 6) t₀ d)) ∗ (∃ d, stg c cc0_stg3_0 ((dats m 0 c).before (3 : Fin 6) t₀ d))
    ∗ (∃ d, stg c cc0_stg4_0 ((dats m 0 c).before (4 : Fin 6) t₀ d)) ∗ (∃ d, stg c cc0_stg5_0 ((dats m 0 c).before (5 : Fin 6) t₀ d)))

set_option maxRecDepth 4000 in
/-- What the launch asks of the body, on every device. -/
theorem body_obligation : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ (body (F := F)) (fun _ => bodyPost m c)
  unfold bodyPre' start
  iintro ⟨⟨⟨⟨%K, Hg⟩, Hcr, Hlev⟩, Hscr⟩, Ho, Hb⟩
  iapply (sound_body m K c fun _ => bodyPost m c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    iexact Hb
  · iintro H; iexact H
end Obligation

/-! ## The cells and the tokens -/

/-- The kernel's own eight DMA semaphores. -/
abbrev osem (k : Bool × Fin 4) : SemLoc sig := csem (some k)

/-- The scratch semaphores the call brings are the ones the protocol names. -/
theorem ownSemFacts : Pipeline.OwnSemFacts cfg0.spec osem := by decide

/-- A cell of a device, as a semaphore of the machine. -/
abbrev kcell (ck : Dev nD × Cell) : GSem nD τ sig := ((ck.1 : Thread nD τ), csem ck.2)

/-- What a device's cell is for. -/
def cellRole : Cell → Role
  | none => .bar
  | some (false, j) => .send j
  | some (true, j) => .recv j

/-- A cell's semaphore has the cell's role. -/
theorem role_csem (k : Cell) : role (csem k) = cellRole k := by
  match k with
  | none => exact role_bar
  | some (false, j) => exact role_send j
  | some (true, j) => exact role_recv j

/-- Different cells have different roles, -/
theorem cellRole_injective : Function.Injective cellRole := by decide

/-- so different semaphores, -/
theorem csem_injective : Function.Injective csem := fun k k' h =>
  cellRole_injective (by rw [← role_csem, ← role_csem, h])

/-- and cells of different devices are different. -/
theorem kcell_injective : Function.Injective kcell := fun ⟨c, k⟩ ⟨c', k'⟩ h => by
  have hc : c = c' := congrArg (fun g : GSem nD τ sig => g.1.1) h
  have hk : k = k' := csem_injective (congrArg Prod.snd h)
  rw [hc, hk]

/-- All cells of all devices. -/
def cellSet : Finset (GSem nD τ sig) := Finset.univ.map ⟨kcell, kcell_injective⟩

/-- The cell and the duty of the token that goes with a device, a peer and a kind: the barrier's duty for the peer, the
    send's or the receive's. -/
abbrev tokCell (x : Dev nD × Fin 4 × Option Bool) : (Dev nD × Cell) × ℕ × Fin 4 := match x with
  | (c, j, none) => ((c, none), 0, j)
  | (c, j, some b) => ((c, some (b, j)), 0, 0)

/-- Different duties belong to different cells or have different names. -/
theorem tokCell_injective : Function.Injective tokCell := by
  rintro ⟨c, j, _ | b⟩ ⟨c', j', _ | b'⟩ h <;> simp_all [tokCell]

/-- A duty, as the cell, round and name it is paid under. -/
abbrev tokOf (x : Dev nD × Fin 4 × Option Bool) : GSem nD τ sig × ℕ × Fin 4 := (kcell (tokCell x).1, (tokCell x).2)
/-- Different duties are paid under different names. -/
theorem tokOf_injective : Function.Injective tokOf := fun x y h =>
  tokCell_injective (Prod.ext (kcell_injective (Prod.mk.inj h).1) (Prod.mk.inj h).2)

/-- All duties of all devices. -/
def tokSet : Finset (GSem nD τ sig × ℕ × Fin 4) := Finset.univ.map ⟨tokOf, tokOf_injective⟩

/-- The ghost state the launch starts with. -/
def u₀ : UU := (initOf (Pipeline.cells cfgs cellOf_inj) (Pipeline.launchToks cfgs cellOf_inj), initOf cellSet tokSet)

/-- A conjunction over four, written out. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A conjunction over a device's cells: the barrier, and the two cells of every peer. -/
theorem bigSep_cell (Φ : Cell → sProp 𝕄) :
    bigSep Finset.univ Φ = iprop(Φ none ∗ bigSep Finset.univ fun j : Fin 4 => iprop(Φ (some (false, j)) ∗ Φ (some (true, j)))) := by
  have h : bigSep Finset.univ Φ = iprop(Φ none ∗ Φ (some (false, 0)) ∗ Φ (some (false, 1)) ∗ Φ (some (false, 2)) ∗ Φ (some (false, 3))
      ∗ Φ (some (true, 0)) ∗ Φ (some (true, 1)) ∗ Φ (some (true, 2)) ∗ Φ (some (true, 3))) :=
    bigSep_univ_eq_bigSepL [none, some (false, 0), some (false, 1), some (false, 2), some (false, 3), some (true, 0), some (true, 1), some (true, 2), some (true, 3)]
      (by decide) (by decide) Φ
  have h₁ : iprop(Φ none ∗ Φ (some (false, 0)) ∗ Φ (some (false, 1)) ∗ Φ (some (false, 2)) ∗ Φ (some (false, 3))
        ∗ Φ (some (true, 0)) ∗ Φ (some (true, 1)) ∗ Φ (some (true, 2)) ∗ Φ (some (true, 3)))
      ⊢ iprop(Φ none ∗ (Φ (some (false, 0)) ∗ Φ (some (false, 1)) ∗ Φ (some (false, 2)) ∗ Φ (some (false, 3)))
        ∗ Φ (some (true, 0)) ∗ Φ (some (true, 1)) ∗ Φ (some (true, 2)) ∗ Φ (some (true, 3))) := by
    iintro ⟨H, H0, H1, H2, H3, Hr⟩
    isplitl [H]; · iexact H
    isplitl [H0 H1 H2 H3]
    · isplitl [H0]; · iexact H0
      isplitl [H1]; · iexact H1
      isplitl [H2] <;> iassumption
    iexact Hr
  have h₂ : iprop(Φ none ∗ (Φ (some (false, 0)) ∗ Φ (some (false, 1)) ∗ Φ (some (false, 2)) ∗ Φ (some (false, 3)))
        ∗ Φ (some (true, 0)) ∗ Φ (some (true, 1)) ∗ Φ (some (true, 2)) ∗ Φ (some (true, 3)))
      ⊢ iprop(Φ none ∗ Φ (some (false, 0)) ∗ Φ (some (false, 1)) ∗ Φ (some (false, 2)) ∗ Φ (some (false, 3))
        ∗ Φ (some (true, 0)) ∗ Φ (some (true, 1)) ∗ Φ (some (true, 2)) ∗ Φ (some (true, 3))) := by
    iintro ⟨H, ⟨H0, H1, H2, H3⟩, Hr⟩
    isplitl [H]; · iexact H
    isplitl [H0]; · iexact H0
    isplitl [H1]; · iexact H1
    isplitl [H2]; · iexact H2
    isplitl [H3] <;> iassumption
  rw [bigSep_sep', bigSep_four, bigSep_four, h]
  exact BI.equiv_iff.mp ⟨h₁, h₂⟩

/-! ## Dealing the ghost state -/

/-- The tokens of device `c`'s own cells for peer `j`; -/
def ownTok (x : Dev nD × Fin 4) : sProp 𝕄 :=
  iprop(dutyTok ER (barCell x.1) 0 x.2 ∗ dutyTok ER (sendCell x.1 x.2) 0 0 ∗ dutyTok ER (recvCell x.1 x.2) 0 0)
/-- those of the duties it pays. -/
def payTok (x : Dev nD × Fin 4) : sProp 𝕄 :=
  iprop(dutyTok ER (barCell (peer x.1 x.2)) 0 (rev x.2) ∗ dutyTok ER (sendCell x.1 x.2) 0 0 ∗ dutyTok ER (recvCell (peer x.1 x.2) x.2) 0 0)

/-- A device and a peer, seen from the peer: naming the way back, -/
def across : Dev nD × Fin 4 ≃ Dev nD × Fin 4 where
  toFun x := (peer x.1 x.2, rev x.2)
  invFun x := (peer x.1 x.2, rev x.2)
  left_inv x := Prod.ext (peer_rev x.1 x.2) (rev_rev x.2)
  right_inv x := Prod.ext (peer_rev x.1 x.2) (rev_rev x.2)
/-- or the same way on. -/
def along : Dev nD × Fin 4 ≃ Dev nD × Fin 4 where
  toFun x := (peer x.1 x.2, x.2)
  invFun x := (peer x.1 (rev x.2), x.2)
  left_inv x := Prod.ext (peer_rev x.1 x.2) rfl
  right_inv x := Prod.ext (rev_peer x.1 x.2) rfl

/-- Every device's tokens, dealt to the devices that pay with them. -/
theorem toks_dealt : (bigSep Finset.univ ownTok : sProp 𝕄) = bigSep Finset.univ payTok := by
  unfold ownTok payTok
  rw [bigSep_sep', bigSep_sep', bigSep_sep', bigSep_sep',
    bigSep_univ_equiv across (fun x : Dev nD × Fin 4 => (dutyTok ER (barCell x.1) 0 x.2 : sProp 𝕄)),
    bigSep_univ_equiv along (fun x : Dev nD × Fin 4 => (dutyTok ER (recvCell x.1 x.2) 0 0 : sProp 𝕄))]
  rfl

/-- What the launch deals device `c`. -/
def G (c : Dev nD) : sProp 𝕄 :=
  iprop((bigSep Finset.univ fun k : Cell => roundState ER (rd m) (kcell (c, k)) 0)
    ∗ ((bigSep Finset.univ fun k : Cell => atPos ER (kcell (c, k)) 0 ∅ 0) ∗ bigSep Finset.univ fun k : Cell => reached ER (kcell (c, k)) 0)
    ∗ bigSep Finset.univ fun j : Fin 4 => ownTok (c, j))

/-- What it has once the invariants stand. -/
def G' (c : Dev nD) : sProp 𝕄 := iprop(∃ K, ghost m K c)

/-- The ghost state of all cells, shared out to the devices. -/
theorem fund_cells : BI.own (ER (initOf cellSet tokSet)) ⊢ (|==> bigSep Finset.univ (G m) : sProp 𝕄) := by
  have hX (Φ : GSem nD τ sig → sProp 𝕄) : bigSep cellSet Φ = bigSep Finset.univ fun c : Dev nD => bigSep Finset.univ fun k : Cell => Φ (kcell (c, k)) := by
    unfold cellSet; rw [bigSep_map, bigSep_univ_prod]; rfl
  have hT : bigSep tokSet (fun x => (dutyTok ER x.1 x.2.1 x.2.2 : sProp 𝕄))
      = bigSep Finset.univ fun c : Dev nD => bigSep Finset.univ fun j : Fin 4 => ownTok (c, j) := by
    unfold tokSet
    rw [bigSep_map, bigSep_univ_prod]
    refine bigSep_congr fun c _ => ?_
    rw [bigSep_univ_prod]
    refine bigSep_congr fun j _ => ?_
    rw [bigSep_univ_eq_bigSepL [none, some false, some true] (by decide) (by decide)]
    rfl
  iintro HX
  imod (Rounds.fund ER (rd m) cellSet tokSet) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The semaphores of one device: its eight DMA semaphores, scoped, and the barrier, the one unscoped semaphore. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : Cell => semVal (kcell (c, k)) 0 : sProp 𝕄) := by
  rw [bigSep_univ_at _ (none : Cell)]
  unfold unscopedSems0 Pipeline.ownSems0
  rw [bigSep_eq_bigSepL_of_eq [SemLoc.reg barS] (by decide) (by decide),
    show (Finset.univ.erase none : Finset Cell) = Finset.univ.map Function.Embedding.some by decide, bigSep_map]
  rfl

/-- Every cell of one device gets its invariant. -/
theorem alloc_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (rd m) κ (kcell (c, k))))
          ∗ ((bigSep Finset.univ fun k : Cell => atPos ER (kcell (c, k)) 0 ∅ 0) ∗ bigSep Finset.univ fun k : Cell => reached ER (kcell (c, k)) 0)
          ∗ bigSep Finset.univ fun j : Fin 4 => ownTok (c, j)) := by
  have hall : iprop((bigSep Finset.univ fun k : Cell => semVal (kcell (c, k)) 0) ∗ bigSep Finset.univ fun k : Cell => roundState ER (rd m) (kcell (c, k)) 0)
      ⊢ (|={Set.univ}=> bigSep Finset.univ fun k : Cell => iprop(∃ κ : ℕ, cellInv ER (rd m) κ (kcell (c, k))) : sProp 𝕄) := by
    rw [← bigSep_sep']
    exact (bigSep_mono fun k _ => (Rounds.body_intro ER (rd m) (kcell (c, k))).trans inv_alloc).trans (bigSep_fupd _ _)
  unfold G
  iintro ⟨Hos, Hus, Hst, Hrest⟩
  ihave Hv := (Entails.of_eq (sems_eq (F := F) c)) $$ [Hos Hus]
  · isplitl [Hus] <;> iassumption
  imod hall $$ [Hv Hst] with Hinv
  · isplitl [Hv] <;> iassumption
  imodintro
  isplitl [Hinv] <;> iassumption

/-- Every cell's invariant, and that it is at its first round: what any device may know of any other. -/
def records (K : Dev nD × Cell → ℕ) : sProp 𝕄 :=
  iprop((bigSep Finset.univ fun ck : Dev nD × Cell => cellInv ER (rd m) (K ck) (kcell ck))
    ∗ bigSep Finset.univ fun ck : Dev nD × Cell => reached ER (kcell ck) 0)

instance records_persistent (K : Dev nD × Cell → ℕ) : BI.Persistent (records m K) := by unfold records; infer_instance

/-- The records hold every cell's invariant, -/
theorem inv_of (K : Dev nD × Cell → ℕ) (ck : Dev nD × Cell) : (records m K : sProp 𝕄) ⊢ cellInv ER (rd m) (K ck) (kcell ck) := by
  have h : (bigSep Finset.univ fun ck : Dev nD × Cell => (cellInv ER (rd m) (K ck) (kcell ck) : sProp 𝕄)) ⊢ cellInv ER (rd m) (K ck) (kcell ck) :=
    bigSep_elim (Finset.mem_univ ck)
  unfold records
  iintro ⟨H, -⟩
  iapply h
  iexact H

/-- and that its first round is reached, -/
theorem reached_of (K : Dev nD × Cell → ℕ) (ck : Dev nD × Cell) : (records m K : sProp 𝕄) ⊢ reached ER (kcell ck) 0 := by
  have h : (bigSep Finset.univ fun ck : Dev nD × Cell => (reached ER (kcell ck) 0 : sProp 𝕄)) ⊢ reached ER (kcell ck) 0 :=
    bigSep_elim (Finset.mem_univ ck)
  unfold records
  iintro ⟨-, H⟩
  iapply h
  iexact H

/-- hence all that a device knows of a peer. -/
theorem knows_of (K : Dev nD × Cell → ℕ) (c : Dev nD) (j : Fin 4) : (records m K : sProp 𝕄) ⊢ knows m K c j := by
  unfold knows
  iintro #H
  isplitr
  · isplitr; · iapply (inv_of m K (peer c j, none)); iexact H
    isplitr; · iapply (inv_of m K (c, some (false, j))); iexact H
    isplitr; · iapply (inv_of m K (c, some (true, j))); iexact H
    iapply (inv_of m K (peer c j, some (true, j))); iexact H
  · isplitr; · iapply (reached_of m K (peer c j, none)); iexact H
    isplitr; · iapply (reached_of m K (c, some (false, j))); iexact H
    isplitr; · iapply (reached_of m K (c, some (true, j))); iexact H
    iapply (reached_of m K (peer c j, some (true, j))); iexact H

/-- What stays with device `c` alone: its positions and its tokens. -/
def linear (c : Dev nD) : sProp 𝕄 :=
  iprop((bigSep Finset.univ fun k : Cell => atPos ER (kcell (c, k)) 0 ∅ 0) ∗ bigSep Finset.univ fun j : Fin 4 => payTok (c, j))

/-- What a device owns, peer by peer. -/
theorem linear_split (c : Dev nD) : (linear c : sProp 𝕄) ⊢ iprop(atPos ER (barCell c) 0 ∅ 0 ∗ holds c 0 ∗ holds c 1 ∗ holds c 2 ∗ holds c 3) := by
  rw [← bigSep_four (F := F) (holds c)]
  unfold linear holds
  rw [bigSep_cell, bigSep_sep' Finset.univ (fun j : Fin 4 => iprop(atPos ER (sendCell c j) 0 ∅ 0 ∗ atPos ER (recvCell c j) 0 ∅ 0))]
  iintro ⟨⟨Hb, Hat⟩, Ht⟩
  isplitl [Hb]; · iexact Hb
  isplitl [Hat]; · iexact Hat
  iexact Ht

/-- The records and what a device owns are its share of the protocol. -/
theorem ghost_intro (K : Dev nD × Cell → ℕ) (c : Dev nD) : iprop(records m K ∗ linear c) ⊢ (G' m c : sProp 𝕄) := by
  unfold G' ghost
  iintro ⟨#H, Hl⟩
  ihave Hl := (linear_split (F := F) c) $$ Hl
  iexists K
  isplitr
  · isplitr; · iapply (inv_of m K (c, none)); iexact H
    isplitr; · iapply (knows_of m K c 0); iexact H
    isplitr; · iapply (knows_of m K c 1); iexact H
    isplitr; · iapply (knows_of m K c 2); iexact H
    iapply (knows_of m K c 3); iexact H
  · iexact Hl

/-- A fact that may be used any number of times goes to every member of a separating product. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices together: the names of the invariants chosen once, the tokens dealt. -/
theorem regroup :
    (bigSep Finset.univ fun c : Dev nD => iprop((bigSep Finset.univ fun k : Cell => iprop(∃ κ : ℕ, cellInv ER (rd m) κ (kcell (c, k))))
          ∗ ((bigSep Finset.univ fun k : Cell => atPos ER (kcell (c, k)) 0 ∅ 0) ∗ bigSep Finset.univ fun k : Cell => reached ER (kcell (c, k)) 0)
          ∗ bigSep Finset.univ fun j : Fin 4 => ownTok (c, j)) : sProp 𝕄)
      ⊢ bigSep Finset.univ (G' m) := by
  rw [bigSep_sep', bigSep_sep', bigSep_sep', ← bigSep_univ_prod (fun ck : Dev nD × Cell => iprop(∃ κ : ℕ, cellInv ER (rd m) κ (kcell ck))),
    ← bigSep_univ_prod (fun ck : Dev nD × Cell => (reached ER (kcell ck) 0 : sProp 𝕄)), ← bigSep_univ_prod (ownTok (F := F)), toks_dealt, bigSep_univ_prod (payTok (F := F))]
  iintro ⟨HI, ⟨Hat, #HR⟩, Htok⟩
  ihave HK := (BI.bigSep_exists_pi Finset.univ (fun (ck : Dev nD × Cell) (κ : ℕ) => (cellInv ER (rd m) κ (kcell ck) : sProp 𝕄))) $$ HI
  icases HK with ⟨%K, #HI⟩
  iapply (with_persistent (R := records m K) fun c _ => ghost_intro m K c)
  isplitr
  · unfold records; isplitl; · iexact HI
    iexact HR
  · unfold linear
    rw [bigSep_sep']
    isplitl [Hat] <;> iassumption

/-- All devices' semaphores at zero, with their shares of the ghost state, become all devices' shares of the protocol. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_cells m c).trans (bigSep_fupd _ _)).trans (BI.fupd_mono (regroup m))

/-! ## The launch credit -/

/-- Summed over the devices, what goes to `c` as peer `j` goes there once. -/
theorem sum_peer (c : Dev nD) (j : Fin 4) (n : ℕ) : (∑ d : Dev nD, if c = peer d j then n else 0) = n := by
  have h (d : Dev nD) : (if c = peer d j then n else 0) = if d = peer c (rev j) then n else 0 := by
    refine if_congr ⟨fun h => ?_, fun h => ?_⟩ rfl rfl
    · rw [h, peer_rev]
    · rw [h, rev_peer]
  rw [Finset.sum_congr rfl fun d _ => h d, Finset.sum_ite_eq' Finset.univ (peer c (rev j)) fun _ => n, if_pos (Finset.mem_univ _)]

/-- What a device owes a cell at launch, as a sum over its peers. -/
theorem owed_eq (d : Dev nD) (ck : Dev nD × Cell) : O₀ d (kcell ck) ()
    = ∑ j : Fin 4, ((if ck = (peer d j, some (true, j)) then units j else 0) + if ck = (peer d j, none) then 1 else 0) := by
  have h (ck' : Dev nD × Cell) (n : ℕ) : (tallyAt (kcell ck') () n : CellTallies nD τ sig Unit) (kcell ck) () = if ck = ck' then n else 0 := by
    rw [tallyAt_apply]
    exact if_congr ⟨fun h => kcell_injective h.1, fun h => ⟨congrArg kcell h, rfl⟩⟩ rfl rfl
  have hv (j : Fin 4) := h (peer d j, some (true, j))
  have hb (j : Fin 4) := h (peer d j, none)
  unfold O₀ owedA owedB
  simp only [Pi.add_apply, Finsupp.add_apply]
  rw [show (recvCell (peer d 3) 3) = kcell (peer d 3, some (true, 3)) from rfl]
  erw [hv 3, hv 2, hv 1, hv 0, hb 3, hb 2, hb 1, hb 0]
  rw [Fin.sum_univ_four]
  simp only [units, if_true, show ¬((0 : Fin 4) = 3) from by decide, show ¬((1 : Fin 4) = 3) from by decide, show ¬((2 : Fin 4) = 3) from by decide, if_false]
  omega

/-- The credit of a device's cell at launch: four units at the barrier, a transfer's at a receive cell. -/
def due : Cell → ℕ
  | none => 4
  | some (false, _) => 0
  | some (true, j) => units j

/-- What all devices owe a cell is what is due there. -/
theorem sum_owed (c : Dev nD) (k : Cell) (hk : ∀ j, k ≠ some (false, j)) : ∑ d : Dev nD, O₀ d (kcell (c, k)) () = due k := by
  rw [Finset.sum_congr rfl fun d _ => owed_eq d (c, k), Finset.sum_comm]
  match k with
  | none =>
    simp only [Prod.mk.injEq, reduceCtorEq, and_false, and_true, if_false, zero_add]
    rw [Finset.sum_congr rfl fun j _ => sum_peer c j 1]
    rfl
  | some (false, j) => exact absurd rfl (hk j)
  | some (true, i) =>
    simp only [Prod.mk.injEq, Option.some.injEq, reduceCtorEq, and_false, true_and, if_false, add_zero]
    rw [Finset.sum_eq_single i (fun j _ hj => Finset.sum_eq_zero fun d _ => if_neg fun h => hj h.2.symm) (fun h => absurd (Finset.mem_univ _) h)]
    simp only [and_true]
    exact sum_peer c i (units i)

/-- The launch's credit for a cell is what is due there. -/
theorem launch_due (c : Dev nD) (k : Cell) (hk : ∀ j, k ≠ some (false, j)) :
    tallyOn (kcell (c, k)) (launchCredit (Pipeline.owing O₀) 0 (kcell (c, k))) = (tallyAt (kcell (c, k)) () (due k) : CellTallies nD τ sig Unit) := by
  unfold tallyAt
  refine congrArg _ (Finsupp.ext fun u => ?_)
  cases u
  rw [Pipeline.launchCredit_owing, Finsupp.single_eq_same, sum_owed c k hk]

/-- The launch's credit gives a device all its credits. -/
theorem credits_intro (c : Dev nD) : (Pipeline.launchCred O₀ c : sProp 𝕄) ⊢ credits c := by
  have hsub : (Pipeline.launchCred O₀ c : sProp 𝕄) ⊢ bigSep Finset.univ fun k : Cell => cred (tallyOn (kcell (c, k)) (launchCredit (Pipeline.owing O₀) 0 (kcell (c, k)))) := by
    unfold Pipeline.launchCred
    have h := bigSep_subset (Finset.subset_univ (Finset.univ.map ⟨csem, csem_injective⟩))
      (Φ := fun sm : SemLoc sig => (cred (tallyOn ((c : Thread nD τ), sm) (launchCredit (Pipeline.owing O₀) 0 ((c : Thread nD τ), sm))) : sProp 𝕄))
    rw [bigSep_map] at h
    exact h
  rw [bigSep_cell, bigSep_sep', bigSep_four (fun j : Fin 4 => cred (tallyOn (kcell (c, some (true, j))) _))] at hsub
  have hb := launch_due c none (fun j h => nomatch h)
  have hv (j : Fin 4) := launch_due c (some (true, j)) (fun i h => by cases h)
  unfold credits landCred
  iintro H
  ihave H := hsub $$ H
  icases H with ⟨HB, -, H0, H1, H2, H3⟩
  isplitl [HB]; · iapply (Entails.of_eq (congrArg cred hb)); iexact HB
  isplitl [H0]; · iapply (Entails.of_eq (congrArg cred (hv 0))); iexact H0
  isplitl [H1]; · iapply (Entails.of_eq (congrArg cred (hv 1))); iexact H1
  isplitl [H2]; · iapply (Entails.of_eq (congrArg cred (hv 2))); iexact H2
  iapply (Entails.of_eq (congrArg cred (hv 3))); iexact H3

/-! ## The run -/

/-- What the launch gives a device is what its body starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (credits_intro (F := F) c) $$ Hcr
  imodintro
  unfold start G'
  isplitl
  · isplitl [HG]; · iexact HG
    isplitl [Hc] <;> iassumption
  · iempintro

/-- On entry the launch's resources are the body's. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch
  iintro ⟨Hs, -, Hr⟩
  isplitl [Hs]; · iexact Hs
  iexact Hr

/-- On exit the body's resources are the launch's. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(closed c ∗ scratch c) from rfl, scopedRest0_eq]
  have hs := sems_eq (F := F) c
  rw [bigSep_cell, bigSep_sep', bigSep_four, bigSep_four] at hs
  have hc : (closed c : sProp 𝕄) ⊢ iprop(unscopedSems0 c ∗ Pipeline.ownSems0 osem c) := by rw [hs]; exact BI.Entails.refl _
  unfold scratch
  iintro ⟨Hc, Hr⟩
  ihave H := hc $$ Hc
  icases H with ⟨H1, H2⟩
  isplitl [H1]; · iexact H1
  isplitl [H2]; · iexact H2
  iexact Hr

/-- Every window is held whole. -/
theorem share_eq (c : Dev nD) (w : Fin cfg0.W) : (dats m 0 c).share w = fullShare := by unfold Dat.share; split <;> rfl

/-- Every wait of the pipeline's own semaphores is below what is owed. -/
theorem waits (c : Dev nD) : (levAts L lv : sProp 𝕄) ⊢ Pipeline.cellsWaits cfgs (dats m) () 0 c :=
  Pipeline.cellsWaits_intro cfgs (dats m) () 0 c fun w s t =>
    mayWait_stage c _ (by revert w s; decide) _ (by
      rcases t with ⟨_ | _, ht⟩
      · exact Or.inl rfl
      · exact Or.inr rfl)

/-- The memory a run starts from: every semaphore at zero. -/
abbrev s₀ : MemSt nD τ sig (Elt F) := ⟨m, fun _ => 0, ρ⟩

set_option maxRecDepth 8000 in
/-- For any float values, from any memory: every weakly fair run of the eight devices ends, with each window's array at
    what the pipeline leaves there and every semaphore at zero. -/
theorem run_arrays : θ_run defs (onTc (τ := τ) (main (F := F))) (s₀ m ρ)
    (fun r => (∀ (c : Dev nD) (w : Fin cfg0.W), r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Run.lean ====
/-
# The run

Each device's five operands are staged whole, so its staging buffers hold the operands themselves, and the one block it
writes back is its whole result array. With the launch this is the run: every device's result array ends at its block of
the result, its operands are unchanged, and no semaphore counts anything.
-/
module

public import proofs.«01_k».proof.Proof.Launch
public import proofs.«01_k».proof.Defs
public import proofs.«01_k».proof.Proof.Gen.Kernel
public import Idealize.ShloMosaic.Lib.Pipeline.Value

@[expose] public section

noncomputable section

namespace Cert.Moe

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg) (c : Dev nD)

/-! ## The staged operands are the operands -/

/-- Each staged operand is the operand: the tokens, the router's weights, the routes, the experts and the shared matrix. -/
theorem xC_eq : xC m c = m ((c : Thread nD τ).loc main_arg0) :=
  funext fun y => congrArg (m ((c : Thread nD τ).loc main_arg0)) (funext fun a => Fin.ext (win0_0.rect_emb_val_of_index_zero (0 : Fin 1) a rfl y))
theorem rwC_eq : rwC m c = m ((c : Thread nD τ).loc main_arg1) :=
  funext fun y => congrArg (m ((c : Thread nD τ).loc main_arg1)) (funext fun a => Fin.ext (win0_1.rect_emb_val_of_index_zero (0 : Fin 1) a rfl y))
theorem idxC_eq : idxC m c = m ((c : Thread nD τ).loc main_arg2) :=
  funext fun y => congrArg (m ((c : Thread nD τ).loc main_arg2)) (funext fun a => Fin.ext (win0_2.rect_emb_val_of_index_zero (0 : Fin 1) a rfl y))
theorem ewC_eq : ewC m c = m ((c : Thread nD τ).loc main_arg3) :=
  funext fun y => congrArg (m ((c : Thread nD τ).loc main_arg3)) (funext fun a => Fin.ext (win0_3.rect_emb_val_of_index_zero (0 : Fin 1) a rfl y))
theorem swC_eq : swC m c = m ((c : Thread nD τ).loc main_arg4) :=
  funext fun y => congrArg (m ((c : Thread nD τ).loc main_arg4)) (funext fun a => Fin.ext (win0_4.rect_emb_val_of_index_zero (0 : Fin 1) a rfl y))

/-! ## The result array -/

/-- The block of the one write-back sits in the result array where it sits in the staging buffer. -/
theorem out_emb (t : Fin cfg0.N) (y : S64x512.Idx) : ((cfg0.win 5).blk t).view.emb y = y :=
  funext fun a => Fin.ext (win0_5.rect_emb_val_of_index_zero t a rfl y)

/-- Device `c`'s result array ends at the block it computes. -/
theorem out_arr : (dats m 0 c).arrAt 5 cfg0.N = outC m c :=
  (dats m 0 c).arrAt_eq_of_cover 5 (outC m c)
    (fun t _ => funext fun y => (congrArg (outC m c) (out_emb t y)).symm)
    (fun i => ⟨t₀, flush0_5 t₀, by
      have h := ((cfg0.win 5).blk t₀).view.emb_mem_set i
      rwa [out_emb t₀ i] at h⟩)

/-- The run, from any memory with every semaphore at zero and for any float values: every device's result array ends at
    the block it computes, its operands are unchanged, and every semaphore is back at zero. -/
theorem run_main : θ_run defs (onTc (τ := τ) (main (F := F))) ⟨m, fun _ => 0, ρ⟩ (fun r =>
    (∀ c : Dev nD, r.2.mem ((c.tc : Thread nD τ).loc main_v1) = outC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c =>
    ⟨(h.1 c 5).trans (out_arr m c), (h.1 c 0).trans ((dats m 0 c).arrAt_in 0 rfl _), (h.1 c 1).trans ((dats m 0 c).arrAt_in 1 rfl _),
      (h.1 c 2).trans ((dats m 0 c).arrAt_in 2 rfl _), (h.1 c 3).trans ((dats m 0 c).arrAt_in 3 rfl _),
      (h.1 c 4).trans ((dats m 0 c).arrAt_in 4 rfl _)⟩, h.2⟩) (run_arrays m ρ)

/-! ## The frames of the two programs -/

/-- The run without its results. -/
theorem run_quiet : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => (h.1 c).2, h.2⟩) (run_main m ρ)

/-- The kernel, read at the extended reals, runs to the end with its operands unchanged and every semaphore at zero. -/
theorem frame_ideal : Cert.quiescent_KernelIdeal := fun m ρ _ => run_quiet (F := Ideal) m ρ

/-- The two programs' tables of kernel bodies are one table. -/
theorem defs_same : Cert.Kernel.defs (F := F) = Cert.KernelIdeal.defs (F := F) :=
  congrArg (fun d => Pipeline.defs Cert.KernelIdeal.pcfgs d) (show Cert.Kernel.defs₀ (F := F) = Cert.KernelIdeal.defs₀ from
    congrArg Defs.onTc (funext fun l => by
      obtain ⟨_ | _, h⟩ := l
      · exact funext fun _ => rfl
      · exact absurd h (by simp)))

/-- So does the kernel itself, on the machine's floats: its text is the same. -/
theorem frame_kernel : Cert.quiescent_Kernel := fun m ρ _ => by
  have h := run_quiet (F := Bits) m ρ
  rw [← defs_same] at h
  exact h

end Cert.Moe

end
-- ==== Proof.Router.lean ====
/-
# The router

A token's scores against the 32 experts, the softmax of them, and the gate: the softmax at the token's route. Stated once
over the whole arrays of tokens and router's weights; the kernel's gate is read here, the reference's elsewhere.
-/
module

public import proofs.«01_k».proof.Proof.Blocks
public import Idealize.ShloMosaic.Lib.Pointwise
public import Idealize.ShloMosaic.Lib.StableHlo.Predicate

@[expose] public section

noncomputable section

namespace Cert.Moe

open Cert.KernelIdeal Cert.KernelIdeal.Gen
open Idealize.ShloMosaic

/-- The arrays of 512 tokens of 256 features, of the router's weights and of the routes. -/
abbrev Tokens := FVec Ideal S512x256 .f32
abbrev Weights := FVec Ideal S256x32 .f32
abbrev Routes := IVec S512x1 32

variable (x : Tokens) (w : Weights)

/-- Token `t`'s score against expert `e`. -/
def score (t : Fin 512) (e : Fin 32) : EReal := ∑ j : Fin 256, x (ix2 t j) * w (ix2 j e)

/-- The greatest of token `t`'s scores. -/
def top (t : Fin 512) : EReal := (Finset.univ : Finset (Fin 32)).fold max ⊥ (score x w t)

/-- The exponential of a score's distance from the greatest. -/
def weight (t : Fin 512) (e : Fin 32) : EReal := Ideal.exp (score x w t e - top x w t)

/-- The softmax of token `t`'s scores at expert `e`. -/
def prob (t : Fin 512) (e : Fin 32) : EReal := Ideal.div (weight x w t e) (∑ e' : Fin 32, weight x w t e')

/-! ## On finite inputs the softmax is a real number -/

/-- Every entry of an array is a real number. -/
def AllReal {s : Shape} (f : s.Idx → EReal) : Prop := ∀ i, ∃ r : ℝ, f i = (r : EReal)

/-- A sum of products of reals is a real. -/
theorem sum_real {ι : Type*} (s : Finset ι) (f : ι → EReal) (h : ∀ i, ∃ r : ℝ, f i = (r : EReal)) : ∃ r : ℝ, ∑ i ∈ s, f i = (r : EReal) := by
  choose g hg using h
  classical
  induction s using Finset.induction_on with
  | empty => exact ⟨0, by simp⟩
  | insert a s ha ih =>
    obtain ⟨r, hr⟩ := ih
    exact ⟨g a + r, by rw [Finset.sum_insert ha, hr, hg, EReal.coe_add]⟩

variable {x w}

/-- On finite inputs every score is a real number, -/
theorem score_real (hx : AllReal x) (hw : AllReal w) (t : Fin 512) (e : Fin 32) : ∃ r : ℝ, score x w t e = (r : EReal) :=
  sum_real _ _ fun j => by
    obtain ⟨a, ha⟩ := hx (ix2 t j)
    obtain ⟨b, hb⟩ := hw (ix2 j e)
    exact ⟨a * b, by rw [ha, hb, EReal.coe_mul]⟩

/-- so is the greatest, -/
theorem top_real (hx : AllReal x) (hw : AllReal w) (t : Fin 512) : ∃ r : ℝ, top x w t = (r : EReal) := by
  have hlt : top x w t < ⊤ := (Finset.fold_max_lt _).2 ⟨bot_lt_top, fun e _ => by
    obtain ⟨r, hr⟩ := score_real hx hw t e
    rw [hr]; exact EReal.coe_lt_top r⟩
  have hgt : ⊥ < top x w t := (Finset.lt_fold_max _).2 (.inr ⟨0, Finset.mem_univ _, by
    obtain ⟨r, hr⟩ := score_real hx hw t 0
    rw [hr]; exact EReal.bot_lt_coe r⟩)
  exact ⟨(top x w t).toReal, (EReal.coe_toReal hlt.ne hgt.ne').symm⟩

/-- and each exponential is a positive one. -/
theorem weight_real (hx : AllReal x) (hw : AllReal w) (t : Fin 512) (e : Fin 32) : ∃ r : ℝ, 0 < r ∧ weight x w t e = (r : EReal) := by
  obtain ⟨s, hs⟩ := score_real hx hw t e
  obtain ⟨p, hp⟩ := top_real hx hw t
  exact ⟨Real.exp (s - p), Real.exp_pos _, by rw [weight, hs, hp, ← EReal.coe_sub, Ideal.exp_coe]⟩

/-- The softmax of a finite token under finite weights is a real number, not negative. -/
theorem prob_real (hx : AllReal x) (hw : AllReal w) (t : Fin 512) (e : Fin 32) : ∃ r : ℝ, 0 ≤ r ∧ prob x w t e = (r : EReal) := by
  choose g hg hgw using weight_real hx hw t
  have hsum : ∑ e' : Fin 32, weight x w t e' = ((∑ e' : Fin 32, g e' : ℝ) : EReal) := by
    simp only [hgw]
    exact (map_sum (⟨⟨(↑·), EReal.coe_zero⟩, EReal.coe_add⟩ : ℝ →+ EReal) g Finset.univ).symm
  have hpos : 0 < ∑ e' : Fin 32, g e' := Finset.sum_pos (fun e' _ => hg e') Finset.univ_nonempty
  refine ⟨g e * (1 / ∑ e' : Fin 32, g e'), by have := hg e; positivity, ?_⟩
  rw [prob, hsum, hgw, Ideal.div_coe hpos.ne', EReal.coe_mul]

/-! ## The kernel's gate -/

/-- The word of minus infinity is read as `⊥`. -/
theorem ofBits_bot : Ideal.ofBits .f32 0xFF800000#32 = ⊥ := by simp [Ideal.ofBits, Ideal.ieee]

/-- A choice on the equality of two words. -/
theorem select_eq {α : Type} {n : ℕ} (a b : BitVec n) (p q : α) : Scalar.select (IntOp.cmpi .eq a b) p q = if a = b then p else q := by
  by_cases h : a = b
  · rw [if_pos h, StableHlo.Predicate.cmpi_eq_iff.2 h]; rfl
  · rw [if_neg h, ValueIdx.eq_zero_of_ne_one (fun h' => h (StableHlo.Predicate.cmpi_eq_iff.1 h'))]; rfl

/-- The words of two numbers below 2³² agree only if the numbers do. -/
theorem ofNat_inj {a b : ℕ} (ha : a < 2 ^ 32) (hb : b < 2 ^ 32) : Iff (BitVec.ofNat 32 a = BitVec.ofNat 32 b) (a = b) :=
  ⟨fun h => by
    have h := congrArg BitVec.toNat h
    rwa [BitVec.toNat_ofNat, BitVec.toNat_ofNat, Nat.mod_eq_of_lt ha, Nat.mod_eq_of_lt hb] at h, fun h => by rw [h]⟩

variable (x w)

/-- The kernel's gate of a token: the sum over the experts of the softmax where the route names the expert, zero elsewhere. -/
theorem gate_sum (ix : Routes) (t : Fin 512) : (k0_pay2 (k0_pay1 (F := Ideal) x w ix) : FVec Ideal S512x1 .f32) (ix2 t 0)
    = ∑ e : Fin 32, if BitVec.ofNat 32 e.val = ix (ix2 t 0) then prob x w t e else 0 := by
  pointwise [k0_pay2, k0_pay1]
  simp only [select_eq, ofBits_bot]
  rfl

/-- The kernel's gate of a token routed to expert `e`: the softmax at `e`. -/
theorem gate_apply (ix : Routes) (t : Fin 512) (e : Fin 32) (h : ix (ix2 t 0) = BitVec.ofNat 32 e.val) :
    (k0_pay2 (k0_pay1 (F := Ideal) x w ix) : FVec Ideal S512x1 .f32) (ix2 t 0) = prob x w t e := by
  rw [gate_sum, h, Finset.sum_eq_single e]
  · exact if_pos rfl
  · intro e' _ hne
    exact if_neg fun h' => hne (Fin.ext ((ofNat_inj (by omega) (by omega)).1 h'))
  · exact fun h' => absurd (Finset.mem_univ e) h'

end Cert.Moe

end
-- ==== Proof.Routed.lean ====
/-
# What the precondition says

The precondition's one word is 1 only if every entry of the tokens and of the router's weights is a real number and every
token's route is the word of one of the 32 experts.
-/
module

public import proofs.«01_k».proof.Proof.Router
public import proofs.«01_k».proof.Pre_routed_KernelIdeal
public import proofs.«01_k».proof.Pre_routed_ReferenceIdeal
public import Idealize.ShloMosaic.Lib.ReduceAll
public import Idealize.ShloMosaic.Lib.WordCmp
public import Idealize.ShloMosaic.Lib.KernelVsHost

@[expose] public section

noncomputable section

namespace Cert.Moe

open Idealize.ShloMosaic

/-- The shape relations of the precondition over the kernel's arguments, and over the reference's. -/
theorem routed_kernel : Cert.Pre_routed_KernelIdeal.Facts :=
  ⟨by decide, by decide, by decide, by decide, by decide, by decide, by decide⟩

/-- The same over the reference's arguments. -/
theorem routed_reference : Cert.Pre_routed_ReferenceIdeal.Facts :=
  ⟨by decide, by decide, by decide, by decide, by decide, by decide, by decide⟩

/-- A value whose absolute value is below infinity is a real number. -/
theorem real_of_abs_lt (a : Ideal .f32)
    (h : FloatOps.cmpf .olt (FloatOps.hostAbsf a) (FloatOps.ofBits (F := Ideal) .f32 0x7F800000#32) = 1#1) : ∃ r : ℝ, (a : EReal) = (r : EReal) := by
  rw [← Ideal.xori_weird_eq_hostAbsf_olt_inf] at h
  have h : IntOp.xori (BitVec.ofBool (decide ((a : EReal) = ⊤ ∨ (a : EReal) = ⊥))) 1#1 = 1#1 := h
  by_cases hb : (a : EReal) = ⊤ ∨ (a : EReal) = ⊥
  · rw [decide_eq_true hb] at h
    exact absurd h (by decide)
  · rw [not_or] at hb
    exact ⟨(a : EReal).toReal, (EReal.coe_toReal hb.1 hb.2).symm⟩

/-- A word between 0 and 31 is the word of an expert. -/
theorem expert_of_word (b : BitVec 32) (h0 : IntOp.cmpi .sge b 0#32 = 1#1) (h1 : IntOp.cmpi .slt b 32#32 = 1#1) :
    ∃ e : Fin 32, b = BitVec.ofNat 32 e.val := by
  have h := WordCmp.andi_sge_zero_slt_ofNat (k := 32) (by decide) b
  rw [h0, show (BitVec.ofNat 32 32) = 32#32 from rfl, h1] at h
  have hlt : b.toNat < 32 := by
    by_contra hn
    rw [decide_eq_false hn] at h
    exact absurd h (by decide)
  exact ⟨⟨b.toNat, hlt⟩, BitVec.eq_of_toNat_eq (by rw [BitVec.toNat_ofNat]; exact (Nat.mod_eq_of_lt b.isLt).symm)⟩

/-- The precondition, read: finite tokens, finite router's weights, and an expert for every token. -/
theorem routed_holds [Cert.Pre_routed_KernelIdeal.Facts] (x : Tokens) (w : Weights) (ix : Routes)
    (ew : FVec Ideal Cert.KernelIdeal.S4x256x512 .f32) (sw : FVec Ideal Cert.KernelIdeal.S256x512 .f32)
    (h : Cert.Pre_routed_KernelIdeal.fn (F := Ideal) x w ix ew sw = fun _ => 1#1) :
    AllReal x ∧ AllReal w ∧ ∀ t : Fin 512, ∃ e : Fin 32, ix (ix2 t 0) = BitVec.ofNat 32 e.val := by
  have h := congrFun h (fun a => a.elim0)
  simp only [Cert.Pre_routed_KernelIdeal.fn, Cert.Pre_routed_KernelIdeal.fn_part1] at h
  obtain ⟨h, hlt⟩ := IntOp.andi_eq_one.1 h
  obtain ⟨h, hge⟩ := IntOp.andi_eq_one.1 h
  obtain ⟨hx, hw⟩ := IntOp.andi_eq_one.1 h
  haveI : Subsingleton Cert.Pre_routed_KernelIdeal.S_.Idx := ⟨fun a b => funext fun k => k.elim0⟩
  exact ⟨fun i => real_of_abs_lt _ (Host.reduce_andi_all _ _ _ _ _ hx i), fun i => real_of_abs_lt _ (Host.reduce_andi_all _ _ _ _ _ hw i),
    fun t => expert_of_word _ (Host.reduce_andi_all _ _ _ _ _ hge (ix2 t 0)) (Host.reduce_andi_all _ _ _ _ _ hlt (ix2 t 0))⟩

end Cert.Moe

end
-- ==== Proof.Experts.lean ====
/-
# The experts' terms

What a device's four experts give a token of one of the eight chunks, entry by entry.
-/
module

public import proofs.«01_k».proof.Proof.Router
public import proofs.«01_k».proof.Proof.Run

@[expose] public section

noncomputable section

namespace Cert.Moe

open Cert.KernelIdeal Cert.KernelIdeal.Gen
open Idealize.ShloMosaic Idealize.ShloMosaic.TcCoe Idealize.ShloMosaic.VecWindow
open Idealize.SL.Sem

/-- One expert's term at an entry: where the row's route names the expert, the gated row times the column of its matrix. -/
theorem expertTerm_apply (e : BitVec 32) (x : Vec Ideal S64x256 .f32) (ix : Vec Ideal S64x1 .i32) (g : Vec Ideal S64x1 .f32)
    (w : Vec Ideal S1x256x512 .bf16) (r : Fin 64) (n : Fin 512) :
    expertTerm (F := Ideal) e x ix g w (ix2 r n)
      = if ix (ix2 r 0) = e then ∑ j : Fin 256, (x (ix2 r j) * g (ix2 r 0) * w (ix3 0 j n) : EReal) else 0 := by
  pointwise [expertTerm]
  simp only [select_eq]
  split
  · rfl
  · exact Finset.sum_const_zero

/-- The word of expert `k` of device `c`: the kernel computes it from the device's number. -/
theorem word_expert : ∀ (c : Dev nD) (k : Fin 4),
    Scalar.addi (Scalar.muli (word c) 4#32) (BitVec.ofNat 32 k.val) = BitVec.ofNat 32 (4 * c.val + k.val) := by
  decide

/-- The token in row `r` of chunk `d`. -/
def row (d : Dev nD) (r : Fin 64) : Fin 512 := ⟨64 * d.val + r.val, by have h1 : d.val < 8 := d.isLt; have h2 := r.isLt; omega⟩

/-- An entry of a window lies in the array at the window's offset. -/
theorem window_at {s : Shape} (off size : Fin s.rank → ℕ) (inb : ∀ a, off a + size a ≤ s.size a) (y : (Rect.unit off size inb).shape.Idx) (a : Fin s.rank) :
    ((Rect.unit off size inb).emb y a).val = off a + (y a).val := by
  rw [Rect.emb_apply]
  exact congrArg (off a + ·) (Nat.one_mul _)

/-- Row `r` of chunk `d` of the tokens, and of an array of one column. -/
theorem window_tokens (f : Tokens) (d : Dev nD) (r : Fin 64) (j : Fin 256) :
    window (s := S512x256) f ![64 * d.val, 0] S64x256.size (rows_inb256 d) (ix2 r j) = f (ix2 (row d r) j) :=
  congrArg f (funext fun a => Fin.ext ((window_at _ _ _ _ a).trans (match a with
    | ⟨0, _⟩ => rfl
    | ⟨1, _⟩ => Nat.zero_add _)))

theorem window_column {α : Type} (f : S512x1.Idx → α) (d : Dev nD) (r : Fin 64) :
    window (s := S512x1) f ![64 * d.val, 0] S64x1.size (rows_inb1 d) (ix2 r 0) = f (ix2 (row d r) 0) :=
  congrArg f (funext fun a => Fin.ext ((window_at _ _ _ _ a).trans (match a with
    | ⟨0, _⟩ => rfl
    | ⟨1, _⟩ => rfl)))

/-- Plane `k` of a stack of four matrices. -/
theorem window_plane (f : S4x256x512.Idx → EReal) (k : Fin 4) (inb) (j : Fin 256) (n : Fin 512) :
    window (s := S4x256x512) f ![k.val, 0, 0] S1x256x512.size inb (ix3 0 j n) = f (ix3 k j n) :=
  congrArg f (funext fun a => Fin.ext ((window_at _ _ _ _ a).trans (match a with
    | ⟨0, _⟩ => rfl
    | ⟨1, _⟩ => Nat.zero_add _
    | ⟨2, _⟩ => Nat.zero_add _)))

variable (m : (ℓ : Loc nD τ sig) → Buf (Elt Ideal) ℓ) (c : Dev nD)

/-- The tokens, the routes, the gates, the four matrices and the shared expert's matrix, as device `c` holds them. -/
abbrev tokens : Tokens := xC m c
abbrev routes : Routes := idxC m c
abbrev gates : FVec Ideal S512x1 .f32 := gateC m c
abbrev matrices : FVec Ideal S4x256x512 .f32 := ewC m c
abbrev shared : FVec Ideal S256x512 .f32 := swC m c

/-- Plane `k` of the device's matrices, as read and rounded. -/
theorem wC_apply (k : Fin 4) (j : Fin 256) (n : Fin 512) : wC m c k (ix3 0 j n) = matrices m c (ix3 k j n) := by
  rw [← window_plane (matrices m c) k (by revert k; decide)]
  match k with
  | 0 => unfold wC; pointwise! [k0_pay3]
  | 1 => unfold wC; pointwise! [k0_pay4]
  | 2 => unfold wC; pointwise! [k0_pay5]
  | 3 => unfold wC; pointwise! [k0_pay6]

/-- Device `c`'s contribution to a token of chunk `d`: over its four experts, the gated row times the expert's matrix where the
    token's route names the expert. -/
theorem chunkC_apply (d : Dev nD) (r : Fin 64) (n : Fin 512) : chunkC m c d (ix2 r n)
    = ∑ k : Fin 4, if routes m c (ix2 (row d r) 0) = BitVec.ofNat 32 (4 * c.val + k.val)
        then ∑ j : Fin 256, (tokens m c (ix2 (row d r) j) * gates m c (ix2 (row d r) 0) * matrices m c (ix3 k j n) : EReal) else 0 := by
  have hw := word_expert c
  rw [Fin.sum_univ_four]
  simp only [← hw, ← wC_apply m c _ _ n, ← window_tokens, ← window_column]
  pointwise [chunkC, fourTerms]
  simp only [expertTerm_apply]

/-- The shared expert's product on the device's own chunk. -/
theorem sharedC_apply (r : Fin 64) (n : Fin 512) :
    sharedC m c (ix2 r n) = ∑ j : Fin 256, (tokens m c (ix2 (row c r) j) * shared m c (ix2 j n) : EReal) := by
  simp only [← window_tokens]
  pointwise! [sharedC, k0_pay51, k0_pay7]

end Cert.Moe

end
-- ==== Proof.Output.lean ====
/-
# The block a device writes

The exchanges add up, over all eight devices, what each gives the device's own chunk: the block a device writes is the
shared expert's product plus the sum of the eight contributions, whatever the order they came in.
-/
module

public import proofs.«01_k».proof.Proof.Experts

@[expose] public section

noncomputable section

namespace Cert.Moe

open Cert.KernelIdeal Cert.KernelIdeal.Gen
open Idealize.ShloMosaic Idealize.ShloMosaic.TcCoe
open Idealize.SL.Sem

variable (m : (ℓ : Loc nD τ sig) → Buf (Elt Ideal) ℓ) (c : Dev nD)

/-- The chunk that stands in half `h` of the landing slots: the device's own, and its mirror's. -/
def chunkOf (h : Fin 2) : Dev nD := if h = 0 then c else mirror c

/-- What a mate stages in the slot for the device is meant for the device and for the device's mirror. -/
theorem destOf_source : ∀ (c : Dev nD) (j : Fin 3) (h : Fin 2), destOf (peer c (rev j.castSucc)) j.castSucc h = chunkOf c h := by
  decide

/-- The mirror's mirror is the device. -/
theorem mirror_mirror : ∀ c : Dev nD, mirror (mirror c) = c := by decide

/-- Half `h` of landing slot `j` holds what the mate whose peer `j` the device is gives the half's chunk. -/
theorem half_apply (j : Fin 3) (h : Fin 2) (r : Fin 64) (n : Fin 512) :
    half m c j h (ix3 0 r n) = chunkC m (peer c (rev j.castSucc)) (chunkOf c h) (ix2 r n) := by
  have hr := r.isLt
  have hh := h.isLt
  have side : (if 64 * h.val + r.val < 64 then (0 : Fin 2) else 1) = h := by
    by_cases h0 : h.val = 0
    · exact (if_pos (by omega)).trans (Fin.ext h0.symm)
    · exact (if_neg (by omega)).trans (Fin.ext (by show 1 = h.val; omega))
  have place : (⟨(64 * h.val + r.val) % 64, Nat.mod_lt _ (by decide)⟩ : Fin 64) = r := Fin.ext (by show (64 * h.val + r.val) % 64 = r.val; omega)
  rw [← destOf_source c j h]
  show chunkC m (peer c (rev j.castSucc)) (destOf (peer c (rev j.castSucc)) j.castSucc (if 64 * h.val + r.val < 64 then 0 else 1)) (ValueIdx.ix2 ⟨(64 * h.val + r.val) % 64, _⟩ n) = _
  rw [side, place, ix2_eq_valueIdx]

/-- The group's sum over a half's chunk. -/
theorem groupSum_apply (h : Fin 2) (r : Fin 64) (n : Fin 512) : groupSum m c (chunkOf c h) h (ix2 r n)
    = ((chunkC m c (chunkOf c h) (ix2 r n) + chunkC m (peer c 2) (chunkOf c h) (ix2 r n) : EReal)
      + chunkC m (peer c 1) (chunkOf c h) (ix2 r n) : EReal) + chunkC m (peer c 0) (chunkOf c h) (ix2 r n) := by
  pointwise [groupSum, addHalf]
  rw [half_apply, half_apply, half_apply]
  rfl

/-- The eight devices, in the order in which device `c` adds what they give its chunk. -/
def sources : Fin 8 → Dev nD
  | 0 => c
  | 1 => peer c 2
  | 2 => peer c 1
  | 3 => peer c 0
  | 4 => mirror c
  | 5 => peer (mirror c) 2
  | 6 => peer (mirror c) 1
  | 7 => peer (mirror c) 0

/-- They are all eight devices, each once. -/
theorem sources_bijective : ∀ c, Function.Bijective (sources c) := by decide

/-- The block device `c` writes: the shared expert's product, and what the eight devices give the device's chunk. -/
theorem outC_apply (r : Fin 64) (n : Fin 512) :
    outC m c (ix2 r n) = (sharedC m c (ix2 r n) + ∑ d : Dev nD, chunkC m d c (ix2 r n) : EReal) := by
  have own := groupSum_apply m c 0 r n
  have far := groupSum_apply m (mirror c) 1 r n
  rw [show chunkOf c 0 = c from rfl] at own
  rw [show chunkOf (mirror c) 1 = mirror (mirror c) from rfl, mirror_mirror c] at far
  rw [← (sources_bijective c).sum_comp, Fin.sum_univ_eight]
  unfold outC landedB stagedB
  rw [mirror_mirror c]
  pointwise [k0_pay57]
  rw [own, far]
  simp only [sources, add_assoc]

end Cert.Moe

end
-- ==== Proof.Reference.lean ====
/-
# The reference

The reference's result at a token and a column, where the token's route names an expert: the shared expert's product, plus
the softmax at the route times the product with that expert's matrix.
-/
module

public import proofs.«01_k».proof.Proof.Router
public import proofs.«01_k».proof.Proof.Gen.ReferenceIdeal.Read

@[expose] public section

noncomputable section

namespace Cert.Moe

open Cert.ReferenceIdeal Cert.ReferenceIdeal.Gen Cert.ReferenceIdeal.Read
open Idealize.ShloMosaic

/-- The 32 experts' matrices, and the shared expert's. -/
abbrev Experts := FVec Ideal S32x256x512 .f32
abbrev Shared := FVec Ideal S256x512 .f32

variable (x : Tokens) (w : Weights) (ix : Routes) (ew : Experts) (sw : Shared)

/-! ## The softmax and the words of the routes -/

/-- The reference's softmax is `prob`. -/
theorem prob_ref (t : Fin 512) (e : Fin 32) : val_main_v9 (F := Ideal) x w (ix2 t e) = prob x w t e := by
  pointwise [val_main_v9, val_main_v8, val_main_v7, val_main_v6, val_main_v5, val_main_v4, val_main_v3, val_main_v2, val_main_v1,
    val_main_v0, val_main_cst, val_main_cst_0]
  rw [ofBits_bot]
  rfl

/-- An expert's word is kept by the choice that adds 32 to a negative one, and lies between 0 and 31. -/
theorem word_kept : ∀ e : Fin 32, Scalar.select (IntOp.cmpi .slt (BitVec.ofNat 32 e.val) 0#32)
    (IntOp.addi (BitVec.ofNat 32 e.val) 32#32) (BitVec.ofNat 32 e.val) = BitVec.ofNat 32 e.val := by
  decide

/-- An expert's word lies between 0 and 31. -/
theorem word_inside : ∀ e : Fin 32, IntOp.andi (IntOp.cmpi .sge (BitVec.ofNat 32 e.val) 0#32)
    (IntOp.cmpi .sle (BitVec.ofNat 32 e.val) 31#32) = 1#1 := by
  decide

/-- A gather's start for an expert's word, clamped to the experts, is the expert's number. -/
theorem word_start : ∀ e : Fin 32, min (BitVec.ofNat 32 e.val).toInt.toNat 31 = e.val := by
  decide

variable {ix}

/-- The row of the softmax's gather, and of the experts' gather: the route's word. -/
theorem row_prob (t : Fin 512) (e : Fin 32) (h : ix (ix2 t 0) = BitVec.ofNat 32 e.val) :
    val_main_call0_v5 (F := Ideal) ix (ix3 t 0 0) = BitVec.ofNat 32 e.val := by
  pointwise [val_main_call0_v5, val_main_call0_v4, val_main_call0_v3, val_main_call0_v2, val_main_call0_v1, val_main_call0_v0,
    val_main_call0_c, val_main_call0_c_0]
  rw [h, word_kept]

/-- The row of the gather over the experts' matrices is the route's word. -/
theorem row_expert (t : Fin 512) (e : Fin 32) (h : ix (ix2 t 0) = BitVec.ofNat 32 e.val) :
    val_main_v18 (F := Ideal) ix (ix2 t 0) = BitVec.ofNat 32 e.val := by
  pointwise [val_main_v18, val_main_v17, val_main_v16, val_main_v15, val_main_v14, val_main_v13, val_main_v12, val_main_c, val_main_c_1]
  rw [h, word_kept]

/-- The softmax's gather is in range. -/
theorem inside_ref (t : Fin 512) (e : Fin 32) (h : ix (ix2 t 0) = BitVec.ofNat 32 e.val) :
    val_main_call0_v12 (F := Ideal) ix (ix2 t 0) = 1#1 := by
  pointwise [val_main_call0_v12, val_main_call0_v11, val_main_call0_v10, val_main_call0_v9, val_main_call0_v8, val_main_call0_v7,
    val_main_call0_v6, val_main_call0_c_1, val_main_call0_c_2, val_main_call0_c_3]
  rw [show (Finset.univ : Finset (Fin 1)) = {0} from rfl, Finset.fold_singleton, row_prob t e h, word_inside]
  rfl

/-! ## The two gathers -/

/-- The gather along a token's softmax reads the expert the token's row names. -/
theorem gather_prob {p : FVec Ideal S512x32 .f32} {i : IVec S512x1x1 32} {t : Fin 512} {e : Fin 32} (h : i (ix3 t 0 0) = BitVec.ofNat 32 e.val) :
    Host.gather gather_S512x32_S512x1x1_S512x1_n_1_0_0_1_2_11 p i (ix2 t 0) = p (ix2 t e) := by
  unfold Host.gather
  refine congrArg p (funext fun a => Fin.ext ?_)
  match a with
  | ⟨0, _⟩ => exact Nat.zero_add _
  | ⟨1, _⟩ =>
    refine Eq.trans ?_ (word_start e)
    rw [← h]
    show min _ _ + 0 + 0 = _
    simp only [Nat.add_zero]
    congr 4
    funext b
    match b with
    | ⟨0, _⟩ => rfl
    | ⟨1, _⟩ => rfl
    | ⟨2, _⟩ => rfl

/-- The gather over the experts' matrices reads the matrix of the expert the token's row names. -/
theorem gather_expert {i : IVec S512x1 32} {t : Fin 512} {e : Fin 32} (h : i (ix2 t 0) = BitVec.ofNat 32 e.val) (j : Fin 256) (n : Fin 512) :
    Host.gather gather_S32x256x512_S512x1_S512x256x512_12_0_n_n_0_1_1256512 ew i (ix3 t j n) = ew (ix3 e j n) := by
  unfold Host.gather
  refine congrArg ew (funext fun a => Fin.ext ?_)
  match a with
  | ⟨0, _⟩ =>
    refine Eq.trans ?_ (word_start e)
    rw [← h]
    show min _ _ + 0 + 0 = _
    simp only [Nat.add_zero]
    congr 4
    funext b
    match b with
    | ⟨0, _⟩ => rfl
    | ⟨1, _⟩ => rfl
  | ⟨1, _⟩ => exact Nat.zero_add _
  | ⟨2, _⟩ => exact Nat.zero_add _

/-! ## The result -/

/-- The reference's result at token `t`, routed to expert `e`, and column `n`. -/
theorem reference_apply (t n : Fin 512) (e : Fin 32) (h : ix (ix2 t 0) = BitVec.ofNat 32 e.val) :
    val_main_v23 (F := Ideal) x w ix ew sw (ix2 t n)
      = (∑ j : Fin 256, x (ix2 t j) * sw (ix2 j n)) + prob x w t e * ∑ j : Fin 256, x (ix2 t j) * ew (ix3 e j n) := by
  have hp : val_main_call0_v13 (F := Ideal) x w ix (ix2 t 0) = prob x w t e := (gather_prob (row_prob t e h)).trans (prob_ref x w t e)
  have he : ∀ j : Fin 256, val_main_v19 (F := Ideal) ix ew (ix3 t j n) = ew (ix3 e j n) := fun j => gather_expert ew (row_expert t e h) j n
  pointwise [val_main_v23, val_main_v22, val_main_v21, val_main_v20, val_main_v11, val_main_v10]
  rw [inside_ref t e h, ValueIdx.select_one, hp]
  simp only [he]

end Cert.Moe

end
-- ==== Proof.Equation.lean ====
/-
# The equation

Of the 32 terms that the eight devices give a token, one for each expert, all are zero but the one of the expert the token
is routed to. The softmax there is a real number that is not negative, so it comes out of the sum, and what a device writes
is the reference's result at its own tokens.
-/
module

public import proofs.«01_k».proof.Proof.Output
public import proofs.«01_k».proof.Proof.Reference
public import Idealize.ShloMosaic.Lib.Layout

@[expose] public section

noncomputable section

namespace Cert.Moe

open Cert.KernelIdeal Cert.KernelIdeal.Gen
open Idealize.ShloMosaic Idealize.ShloMosaic.TcCoe
open Idealize.SL.Sem

/-- A real number that is not negative distributes over a sum. -/
theorem mul_sum_real {ι : Type*} (s : Finset ι) (f : ι → EReal) (r : ℝ) (hr : 0 ≤ r) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.2 hr) (EReal.coe_ne_top r), ih]

/-- The number of the device's expert `k`. -/
def expertOf (d : Dev nD) (k : Fin 4) : Fin 32 := ⟨4 * d.val + k.val, by have h1 : d.val < 8 := d.isLt; have h2 := k.isLt; omega⟩

/-- A sum over the devices and their experts in which only the expert `e` gives a term. -/
theorem sum_experts (e : Fin 32) (f : Fin 32 → EReal) :
    (∑ d : Dev nD, ∑ k : Fin 4, if BitVec.ofNat 32 e.val = BitVec.ofNat 32 (4 * d.val + k.val) then f (expertOf d k) else 0) = f e := by
  have he := e.isLt
  have key : ∀ (d : Dev nD) (k : Fin 4), Iff (BitVec.ofNat 32 e.val = BitVec.ofNat 32 (4 * d.val + k.val)) (e.val = 4 * d.val + k.val) := fun d k => by
    have h1 : d.val < 8 := d.isLt
    exact ofNat_inj (by omega) (by omega)
  rw [Finset.sum_eq_single (⟨e.val / 4, by show e.val / 4 < 8; omega⟩ : Dev nD)]
  · rw [Finset.sum_eq_single (⟨e.val % 4, by omega⟩ : Fin 4)]
    · rw [if_pos ((key _ _).2 (by show e.val = 4 * (e.val / 4) + e.val % 4; omega))]
      exact congrArg f (Fin.ext (by show 4 * (e.val / 4) + e.val % 4 = e.val; omega))
    · intro k _ hk
      refine if_neg fun h => hk (Fin.ext ?_)
      have h : e.val = 4 * (e.val / 4) + k.val := (key _ _).1 h
      show k.val = e.val % 4
      omega
    · exact fun h => absurd (Finset.mem_univ _) h
  · intro d _ hd
    refine Finset.sum_eq_zero fun k _ => if_neg fun h => hd (Fin.ext ?_)
    have h := (key d k).1 h
    have := k.isLt
    show d.val = e.val / 4
    omega
  · exact fun h => absurd (Finset.mem_univ _) h

variable {m : (ℓ : Loc nD τ sig) → Buf (Elt Ideal) ℓ} {x : Tokens} {w : Weights} {ix : Routes} {ew : Experts} {sw : Shared}

/-- Where every device holds the tokens, the router's weights, the routes and the shared expert, and its own four of the 32
    experts, the block device `c` writes is the reference's result at the device's tokens. -/
theorem outC_eq (hx : ∀ d, tokens m d = x) (hw : ∀ d, rwC m d = w) (hix : ∀ d, routes m d = ix) (hsw : ∀ d, shared m d = sw)
    (hew : ∀ d k j n, matrices m d (ix3 k j n) = ew (ix3 (expertOf d k) j n)) (fx : AllReal x) (fw : AllReal w) (c : Dev nD) (r : Fin 64)
    (n : Fin 512) (e : Fin 32) (h : ix (ix2 (row c r) 0) = BitVec.ofNat 32 e.val) :
    outC m c (ix2 r n) = Cert.ReferenceIdeal.Read.val_main_v23 (F := Ideal) x w ix ew sw (ix2 (row c r) n) := by
  have gate : ∀ d, gates m d (ix2 (row c r) 0) = prob x w (row c r) e := fun d => by
    refine Eq.trans ?_ (gate_apply x w ix (row c r) e h)
    show k0_pay2 (k0_pay1 (tokens m d) (rwC m d) (routes m d)) _ = _
    rw [hx, hw, hix]
  obtain ⟨g, hg, hp⟩ := prob_real fx fw (row c r) e
  rw [reference_apply x w ew sw (row c r) n e h, outC_apply, sharedC_apply, hx, hsw, hp, mul_sum_real _ _ g hg]
  refine congrArg _ ?_
  simp only [chunkC_apply, hx, hix, gate, hew, h, hp]
  rw [sum_experts e fun e' => ∑ j : Fin 256, x (ix2 (row c r) j) * (g : EReal) * ew (ix3 e' j n)]
  exact Finset.sum_congr rfl fun j _ => by rw [mul_comm (x _) (g : EReal), mul_assoc]

/-! ## The blocks of the whole arrays -/

/-- Entry `(r, n)` of device `c`'s block of the whole result is the entry of the token in row `r` of the device's chunk. -/
theorem result_at (v : (⟨2, ![512, 512]⟩ : Shape).Idx → EReal) (c : Fin 8) (r : Fin 64) (n : Fin 512) :
    Layout.block ⟨2, ![64, 512]⟩ ⟨2, ![512, 512]⟩ 0 8 c v (by decide) (ix2 r n) = v (ix2 (row c r) n) :=
  congrArg v (funext fun a => Fin.ext (match a with
    | ⟨0, _⟩ => congrArg (· + r.val) (Nat.mul_comm c.val 64)
    | ⟨1, _⟩ => rfl))

/-- Plane `k` of device `d`'s block of the 32 experts' matrices is the matrix of the device's expert `k`. -/
theorem expert_at (v : Experts) (d : Fin 8) (k : Fin 4) (j : Fin 256) (n : Fin 512) :
    Layout.block ⟨3, ![4, 256, 512]⟩ ⟨3, ![32, 256, 512]⟩ 0 8 d v (by decide) (ix3 k j n) = v (ix3 (expertOf d k) j n) :=
  congrArg v (funext fun a => Fin.ext (match a with
    | ⟨0, _⟩ => congrArg (· + k.val) (Nat.mul_comm d.val 4)
    | ⟨1, _⟩ => rfl
    | ⟨2, _⟩ => rfl))

end Cert.Moe

end
-- ==== Proof.lean ====
/-
# The claim

The launch gives the kernel's two frames, the reference's operations in order give its own. Under the precondition every
device's result is its block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Routed
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs to the end with its arguments unchanged and every semaphore at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the router's inputs are finite and every route names an expert, each device's result is its block of the reference's
    result, and both programs leave their arguments unchanged. -/
theorem algebraic [Cert.Pre_routed_KernelIdeal.Facts] : Cert.algebraic_KernelIdeal_ReferenceIdeal_pre_routed_KernelIdeal := by
  intro m g m' g' hpre hargs
  obtain ⟨fx, fw, route⟩ := Cert.Moe.routed_holds _ _ _ _ _ (hpre 0)
  rw [(hargs 0).1] at fx
  rw [(hargs 0).2.1] at fw
  rw [(hargs 0).2.2.1] at route
  refine ⟨Cert.ReferenceIdeal.Read.val_main_v23 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · refine (θ_run Cert.KernelIdeal.defs _ _).mono (fun r h c => ⟨(h.1 c).1.trans ?_, (h.1 c).2⟩) (Cert.Moe.run_main (F := Ideal) m g)
    funext i
    rw [ValueIdx.eq_ix2 i, ← ix2_eq_valueIdx]
    obtain ⟨e, he⟩ := route (Cert.Moe.row c (i 0))
    refine Eq.trans ?_ (Cert.Moe.result_at _ c (i 0) (i 1)).symm
    exact Cert.Moe.outC_eq (fun d => (Cert.Moe.xC_eq m d).trans (hargs d).1) (fun d => (Cert.Moe.rwC_eq m d).trans (hargs d).2.1)
      (fun d => (Cert.Moe.idxC_eq m d).trans (hargs d).2.2.1) (fun d => (Cert.Moe.swC_eq m d).trans (hargs d).2.2.2.2)
      (fun d k j n => (congrFun ((Cert.Moe.ewC_eq m d).trans (hargs d).2.2.2.1) (ix3 k j n)).trans (Cert.Moe.expert_at _ d k j n))
      fx fw c (i 0) (i 1) e he
  · exact (θ_run Cert.ReferenceIdeal.defs _ _).mono (fun r h => ⟨(h 0).1.trans (Cert.ReferenceIdeal.Read.val_main_v23_eq ..), (h 0).2⟩)
      (Cert.ReferenceIdeal.Value.run (F := Ideal) m' g')

/-- All the claims. -/
theorem claim : Cert.Claim := ⟨Cert.Kernel.Gen.facts, Cert.KernelIdeal.Gen.facts, Cert.ReferenceIdeal.Gen.facts,
  Cert.Moe.routed_kernel, Cert.Moe.routed_reference,
  Cert.Moe.frame_kernel, Cert.Moe.frame_ideal, fun m ρ _ => Cert.Moe.frame_ideal m ρ trivial,
  frame_reference, fun m ρ _ => frame_reference m ρ trivial, trivial,
  @algebraic Cert.Moe.routed_kernel⟩

end Cert.Proof

end
